-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v332) = v2 c
          ∧ r.2.mem ((c.tc : Thread Cert.ReferenceIdeal.nD Cert.ReferenceIdeal.τ).loc Cert.ReferenceIdeal.main_v358) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S16x20000x2 : Shape := ⟨3, ![16, 20000, 2]⟩
abbrev S16x20000 : Shape := ⟨2, ![16, 20000]⟩
abbrev S16x20000x30x2 : Shape := ⟨4, ![16, 20000, 30, 2]⟩
abbrev S16x30x2 : Shape := ⟨3, ![16, 30, 2]⟩
abbrev S_ : Shape := ⟨0, ![]⟩

class Facts : Prop where
  bcast_S_S16x20000 : S_.BroadcastsInDim S16x20000 (![] : Fin 0 → Fin S16x20000.rank)
  reducesTo_S16x20000_S_d0_1 : S16x20000.ReducesTo [0, 1] S_
  h_S_ : 0 < S_.numel

variable [Facts]

def fn {F : FTy → Type} [FloatOps F] (main_arg0 : FVec F S16x20000x2 .f32) (main_arg1 : FVec F S16x20000 .f32) (main_arg2 : FVec F S16x20000x30x2 .f32) (main_arg3 : FVec F S16x20000 .f32) (main_arg4 : FVec F S16x30x2 .f32) : IVec S_ 1 :=
  let main_cst : FVec F S_ .f32 := constant S_ .f32 0xFF800000#32
  let main_v0 : FVec F S16x20000 .f32 := broadcastInDim S16x20000 ![] bcast_S_S16x20000 main_cst
  let main_v1 : IVec S16x20000 1 := cmpf .ogt main_arg1 main_v0
  let main_c : IVec S_ 1 := constantI S_ 1 1#1
  let main_v2 : IVec S_ 1 := (fun x v => Host.reduce IntOp.andi x v reducesTo_S16x20000_S_d0_1 h_S_) main_v1 main_c
  main_v2
-- ==== Kernel.lean ====
abbrev S16x20000x2 : Shape := ⟨3, ![16, 20000, 2]⟩
abbrev S16x20000 : Shape := ⟨2, ![16, 20000]⟩
abbrev S16x20000x30x2 : Shape := ⟨4, ![16, 20000, 30, 2]⟩
abbrev S16x30x2 : Shape := ⟨3, ![16, 30, 2]⟩
abbrev S2x2 : Shape := ⟨2, ![2, 2]⟩
abbrev S1x2 : Shape := ⟨2, ![1, 2]⟩
abbrev S2 : Shape := ⟨1, ![2]⟩
abbrev S1x1x2 : Shape := ⟨3, ![1, 1, 2]⟩
abbrev S_ : Shape := ⟨0, ![]⟩
abbrev S16x1x2 : Shape := ⟨3, ![16, 1, 2]⟩
abbrev S16x2 : Shape := ⟨2, ![16, 2]⟩
abbrev S16x8 : Shape := ⟨2, ![16, 8]⟩
abbrev S16x16 : Shape := ⟨2, ![16, 16]⟩
abbrev S16x1 : Shape := ⟨2, ![16, 1]⟩
abbrev S16 : Shape := ⟨1, ![16]⟩
abbrev S1x16 : Shape := ⟨2, ![1, 16]⟩
abbrev S16x30x2x20000 : Shape := ⟨4, ![16, 30, 2, 20000]⟩
abbrev S16x16x30x2 : Shape := ⟨4, ![16, 16, 30, 2]⟩
abbrev S1x30x2x20000 : Shape := ⟨4, ![1, 30, 2, 20000]⟩
abbrev S1x16x30x2 : Shape := ⟨4, ![1, 16, 30, 2]⟩
abbrev S1x1x2x20000 : Shape := ⟨4, ![1, 1, 2, 20000]⟩
abbrev S2x20000 : Shape := ⟨2, ![2, 20000]⟩
abbrev S1x16x1x2 : Shape := ⟨4, ![1, 16, 1, 2]⟩
abbrev S1x1 : Shape := ⟨2, ![1, 1]⟩
abbrev S16x1x30x2 : Shape := ⟨4, ![16, 1, 30, 2]⟩
abbrev S16x16x1x1 : Shape := ⟨4, ![16, 16, 1, 1]⟩
abbrev S1 : Shape := ⟨1, ![1]⟩
abbrev S16x6x30x2 : Shape := ⟨4, ![16, 6, 30, 2]⟩
abbrev S16x6 : Shape := ⟨2, ![16, 6]⟩

abbrev nBuf : Space → Nat
  | .hbm => 32
  | .vmem => 16
  | .smem => 0
  | _ => 0

abbrev bufTy : (tb : Table) → Fin (tcTables nBuf tb) → BufTy
  | .hbm, ⟨0, _⟩ => ⟨S16x20000x2, .f32⟩
  | .hbm, ⟨1, _⟩ => ⟨S16x20000, .f32⟩
  | .hbm, ⟨2, _⟩ => ⟨S16x20000x30x2, .f32⟩
  | .hbm, ⟨3, _⟩ => ⟨S16x20000, .f32⟩
  | .hbm, ⟨4, _⟩ => ⟨S16x30x2, .f32⟩
  | .hbm, ⟨5, _⟩ => ⟨S2x2, .f32⟩
  | .hbm, ⟨6, _⟩ => ⟨S1x2, .f32⟩
  | .hbm, ⟨7, _⟩ => ⟨S2, .f32⟩
  | .hbm, ⟨8, _⟩ => ⟨S1x1x2, .f32⟩
  | .hbm, ⟨9, _⟩ => ⟨S16x20000x2, .f32⟩
  | .hbm, ⟨10, _⟩ => ⟨S16x20000x2, .f32⟩
  | .hbm, ⟨11, _⟩ => ⟨S_, .f32⟩
  | .hbm, ⟨12, _⟩ => ⟨S16x20000, .f32⟩
  | .hbm, ⟨13, _⟩ => ⟨S1x2, .f32⟩
  | .hbm, ⟨14, _⟩ => ⟨S2, .f32⟩
  | .hbm, ⟨15, _⟩ => ⟨S1x1x2, .f32⟩
  | .hbm, ⟨16, _⟩ => ⟨S16x20000x2, .f32⟩
  | .hbm, ⟨17, _⟩ => ⟨S16x20000x2, .f32⟩
  | .hbm, ⟨18, _⟩ => ⟨S_, .f32⟩
  | .hbm, ⟨19, _⟩ => ⟨S16x20000, .f32⟩
  | .hbm, ⟨20, _⟩ => ⟨S16x1x2, .f32⟩
  | .hbm, ⟨21, _⟩ => ⟨S16x2, .f32⟩
  | .hbm, ⟨22, _⟩ => ⟨S16x8, .f32⟩
  | .hbm, ⟨23, _⟩ => ⟨S16x16, .i32⟩
  | .hbm, ⟨24, _⟩ => ⟨S16x30x2x20000, .f32⟩
  | .hbm, ⟨25, _⟩ => ⟨S16x16x30x2, .f32⟩
  | .hbm, ⟨26, _⟩ => ⟨S1x1, .f32⟩
  | .hbm, ⟨27, _⟩ => ⟨S_, .f32⟩
  | .hbm, ⟨28, _⟩ => ⟨S16x1, .f32⟩
  | .hbm, ⟨29, _⟩ => ⟨S16, .f32⟩
  | .hbm, ⟨30, _⟩ => ⟨S16x6x30x2, .f32⟩
  | .hbm, ⟨31, _⟩ => ⟨S16x6, .f32⟩
  | .local _ .vmem, ⟨0, _⟩ => ⟨S16x20000, .f32⟩
  | .local _ .vmem, ⟨1, _⟩ => ⟨S16x20000, .f32⟩
  | .local _ .vmem, ⟨2, _⟩ => ⟨S16x20000, .f32⟩
  | .local _ .vmem, ⟨3, _⟩ => ⟨S16x20000, .f32⟩
  | .local _ .vmem, ⟨4, _⟩ => ⟨S16x2, .f32⟩
  | .local _ .vmem, ⟨5, _⟩ => ⟨S16x8, .f32⟩
  | .local _ .vmem, ⟨6, _⟩ => ⟨S16x16, .i32⟩
  | .local _ .vmem, ⟨7, _⟩ => ⟨S16x16, .i32⟩
  | .local _ .vmem, ⟨8, _⟩ => ⟨S1x30x2x20000, .f32⟩
  | .local _ .vmem, ⟨9, _⟩ => ⟨S1x30x2x20000, .f32⟩
  | .local _ .vmem, ⟨10, _⟩ => ⟨S1x16x30x2, .f32⟩
  | .local _ .vmem, ⟨11, _⟩ => ⟨S1x16x30x2, .f32⟩
  | .local _ .vmem, ⟨12, _⟩ => ⟨S16x16x30x2, .f32⟩
  | .local _ .vmem, ⟨13, _⟩ => ⟨S16x30x2, .f32⟩
  | .local _ .vmem, ⟨14, _⟩ => ⟨S16x8, .f32⟩
  | .local _ .vmem, ⟨15, _⟩ => ⟨S1x1, .f32⟩
  | _, _ => ⟨S16x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := .none

abbrev stage0_0 : Fin 1 → Memref sig .tc .vmem S16x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .vmem S16x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x30x2x20000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x30x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S16x16x30x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16x30x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== ReferenceIdeal.lean ====
abbrev S16x20000x2 : Shape := ⟨3, ![16, 20000, 2]⟩
abbrev S16x20000 : Shape := ⟨2, ![16, 20000]⟩
abbrev S16x20000x30x2 : Shape := ⟨4, ![16, 20000, 30, 2]⟩
abbrev S16x30x2 : Shape := ⟨3, ![16, 30, 2]⟩
abbrev S16x1x2 : Shape := ⟨3, ![16, 1, 2]⟩
abbrev S16x2 : Shape := ⟨2, ![16, 2]⟩
abbrev S_ : Shape := ⟨0, ![]⟩
abbrev S20000 : Shape := ⟨1, ![20000]⟩
abbrev S16x10 : Shape := ⟨2, ![16, 10]⟩
abbrev S16x10x1 : Shape := ⟨3, ![16, 10, 1]⟩
abbrev S16x10x2 : Shape := ⟨3, ![16, 10, 2]⟩
abbrev S16 : Shape := ⟨1, ![16]⟩
abbrev S10 : Shape := ⟨1, ![10]⟩
abbrev S1x10 : Shape := ⟨2, ![1, 10]⟩
abbrev S1x20000 : Shape := ⟨2, ![1, 20000]⟩
abbrev S1x1x20000 : Shape := ⟨3, ![1, 1, 20000]⟩
abbrev S16x10x20000 : Shape := ⟨3, ![16, 10, 20000]⟩
abbrev S16x1 : Shape := ⟨2, ![16, 1]⟩
abbrev S16x1x1 : Shape := ⟨3, ![16, 1, 1]⟩
abbrev S1x16 : Shape := ⟨2, ![1, 16]⟩
abbrev S6x16 : Shape := ⟨2, ![6, 16]⟩
abbrev S16x6 : Shape := ⟨2, ![16, 6]⟩
abbrev S16x6x1 : Shape := ⟨3, ![16, 6, 1]⟩
abbrev S16x6x30x2 : Shape := ⟨4, ![16, 6, 30, 2]⟩
abbrev S16x10x30x2 : Shape := ⟨4, ![16, 10, 30, 2]⟩

abbrev nBuf : Space → Nat
  | .hbm => 542
  | .vmem => 0
  | .smem => 0
  | _ => 0

abbrev hbmTy0_0 (i : Nat) : BufTy := match i % 128 with
  | 0 => ⟨S16x20000x2, .f32⟩
  | 1 => ⟨S16x20000, .f32⟩
  | 2 => ⟨S16x20000x30x2, .f32⟩
  | 3 => ⟨S16x20000, .f32⟩
  | 4 => ⟨S16x30x2, .f32⟩
  | 5 => ⟨S16x1x2, .f32⟩
  | 6 => ⟨S16x2, .f32⟩
  | 7 => ⟨S16x1x2, .f32⟩
  | 8 => ⟨S16x20000x2, .f32⟩
  | 9 => ⟨S16x20000x2, .f32⟩
  | 10 => ⟨S16x20000x2, .f32⟩
  | 11 => ⟨S_, .f32⟩
  | 12 => ⟨S16x20000, .f32⟩
  | 13 => ⟨S_, .f32⟩
  | 14 => ⟨S16x20000, .f32⟩
  | 15 => ⟨S16x20000, .f32⟩
  | 16 => ⟨S16x20000, .f32⟩
  | 17 => ⟨S_, .f32⟩
  | 18 => ⟨S16x20000, .f32⟩
  | 19 => ⟨S16x20000, .i1⟩
  | 20 => ⟨S_, .f32⟩
  | 21 => ⟨S_, .f32⟩
  | 22 => ⟨S16x20000, .f32⟩
  | 23 => ⟨S16x20000, .f32⟩
  | 24 => ⟨S_, .f32⟩
  | 25 => ⟨S16x20000, .f32⟩
  | 26 => ⟨S16x20000, .f32⟩
  | 27 => ⟨S16x20000, .f32⟩
  | 28 => ⟨S_, .f32⟩
  | 29 => ⟨S16x20000, .f32⟩
  | 30 => ⟨S16x20000, .f32⟩
  | 31 => ⟨S_, .f32⟩
  | 32 => ⟨S_, .f32⟩
  | 33 => ⟨S20000, .f32⟩
  | 34 => ⟨S16x20000, .f32⟩
  | 35 => ⟨S16x20000, .f32⟩
  | 36 => ⟨S16x10, .f32⟩
  | 37 => ⟨S16x10, .i32⟩
  | 38 => ⟨S_, .i32⟩
  | 39 => ⟨S16x10, .i32⟩
  | 40 => ⟨S16x10, .i1⟩
  | 41 => ⟨S_, .i32⟩
  | 42 => ⟨S16x10, .i32⟩
  | 43 => ⟨S16x10, .i32⟩
  | 44 => ⟨S16x10, .i32⟩
  | 45 => ⟨S16x10x1, .i32⟩
  | 46 => ⟨S16x10x2, .f32⟩
  | 47 => ⟨S_, .i32⟩
  | 48 => ⟨S16x10, .i32⟩
  | 49 => ⟨S16x10, .i1⟩
  | 50 => ⟨S_, .i32⟩
  | 51 => ⟨S16x10, .i32⟩
  | 52 => ⟨S16x10, .i32⟩
  | 53 => ⟨S16x10, .i32⟩
  | 54 => ⟨S16x10x1, .i32⟩
  | 55 => ⟨S16x10, .f32⟩
  | 56 => ⟨S_, .i32⟩
  | 57 => ⟨S16x10, .i32⟩
  | 58 => ⟨S16x10, .i1⟩
  | 59 => ⟨S_, .i32⟩
  | 60 => ⟨S16x10, .i32⟩
  | 61 => ⟨S16x10, .i32⟩
  | 62 => ⟨S16x10, .i32⟩
  | 63 => ⟨S16x10x1, .i32⟩
  | 64 => ⟨S16x10, .f32⟩
  | 65 => ⟨S_, .i32⟩
  | 66 => ⟨S16x10, .i32⟩
  | 67 => ⟨S16x10, .i1⟩
  | 68 => ⟨S_, .i32⟩
  | 69 => ⟨S16x10, .i32⟩
  | 70 => ⟨S16x10, .i32⟩
  | 71 => ⟨S16x10, .i32⟩
  | 72 => ⟨S16x10x1, .i32⟩
  | 73 => ⟨S16x10, .f32⟩
  | 74 => ⟨S_, .f32⟩
  | 75 => ⟨S_, .f32⟩
  | 76 => ⟨S_, .f32⟩
  | 77 => ⟨S16x10, .f32⟩
  | 78 => ⟨S16x10, .f32⟩
  | 79 => ⟨S_, .f32⟩
  | 80 => ⟨S16x10, .f32⟩
  | 81 => ⟨S16x10, .f32⟩
  | 82 => ⟨S16x10, .f32⟩
  | 83 => ⟨S16x10, .f32⟩
  | 84 => ⟨S_, .f32⟩
  | 85 => ⟨S16x10, .f32⟩
  | 86 => ⟨S16x10, .f32⟩
  | 87 => ⟨S_, .f32⟩
  | 88 => ⟨S16x10, .f32⟩
  | 89 => ⟨S16x10, .f32⟩
  | 90 => ⟨S16x10, .f32⟩
  | 91 => ⟨S16x10, .f32⟩
  | 92 => ⟨S16x10, .f32⟩
  | 93 => ⟨S16x10, .f32⟩
  | 94 => ⟨S_, .f32⟩
  | 95 => ⟨S16, .f32⟩
  | 96 => ⟨S_, .f32⟩
  | 97 => ⟨S16, .f32⟩
  | 98 => ⟨S16, .f32⟩
  | 99 => ⟨S16x10x2, .f32⟩
  | 100 => ⟨S16x10x2, .f32⟩
  | 101 => ⟨S16x10x2, .f32⟩
  | 102 => ⟨S_, .f32⟩
  | 103 => ⟨S16x10x2, .f32⟩
  | 104 => ⟨S16x10x2, .i1⟩
  | 105 => ⟨S_, .f32⟩
  | 106 => ⟨S16x10x2, .f32⟩
  | 107 => ⟨S16x10x2, .f32⟩
  | 108 => ⟨S16x10x2, .f32⟩
  | 109 => ⟨S_, .f32⟩
  | 110 => ⟨S16x10x2, .f32⟩
  | 111 => ⟨S16x10x2, .f32⟩
  | 112 => ⟨S16x10x2, .f32⟩
  | 113 => ⟨S_, .f32⟩
  | 114 => ⟨S16, .f32⟩
  | 115 => ⟨S_, .f32⟩
  | 116 => ⟨S16, .f32⟩
  | 117 => ⟨S16, .f32⟩
  | 118 => ⟨S_, .f32⟩
  | 119 => ⟨S10, .f32⟩
  | 120 => ⟨S_, .f32⟩
  | 121 => ⟨S_, .f32⟩
  | 122 => ⟨S_, .f32⟩
  | 123 => ⟨S16x10, .f32⟩
  | 124 => ⟨S16x10, .f32⟩
  | 125 => ⟨S_, .f32⟩
  | 126 => ⟨S16x10, .f32⟩
  | 127 => ⟨S16x10, .f32⟩
  | _ => ⟨S16x20000x2, .f32⟩

abbrev hbmTy0_1 (i : Nat) : BufTy := match i % 128 with
  | 0 => ⟨S16x10, .f32⟩
  | 1 => ⟨S1x10, .f32⟩
  | 2 => ⟨S16x10, .f32⟩
  | 3 => ⟨S16x10, .f32⟩
  | 4 => ⟨S_, .f32⟩
  | 5 => ⟨S10, .f32⟩
  | 6 => ⟨S10, .f32⟩
  | 7 => ⟨S_, .f32⟩
  | 8 => ⟨S16x10, .f32⟩
  | 9 => ⟨S16x10, .f32⟩
  | 10 => ⟨S16x10, .f32⟩
  | 11 => ⟨S1x10, .f32⟩
  | 12 => ⟨S16x10, .f32⟩
  | 13 => ⟨S16x10, .f32⟩
  | 14 => ⟨S16x10, .f32⟩
  | 15 => ⟨S16x10, .f32⟩
  | 16 => ⟨S_, .f32⟩
  | 17 => ⟨S16, .f32⟩
  | 18 => ⟨S_, .f32⟩
  | 19 => ⟨S16, .f32⟩
  | 20 => ⟨S16, .f32⟩
  | 21 => ⟨S20000, .i32⟩
  | 22 => ⟨S1x20000, .i32⟩
  | 23 => ⟨S16x10x1, .i32⟩
  | 24 => ⟨S1x1x20000, .i32⟩
  | 25 => ⟨S16x10x20000, .i32⟩
  | 26 => ⟨S16x10x20000, .i32⟩
  | 27 => ⟨S16x10x20000, .i1⟩
  | 28 => ⟨S_, .i1⟩
  | 29 => ⟨S16x20000, .i1⟩
  | 30 => ⟨S_, .f32⟩
  | 31 => ⟨S_, .f32⟩
  | 32 => ⟨S20000, .f32⟩
  | 33 => ⟨S20000, .f32⟩
  | 34 => ⟨S16x20000, .f32⟩
  | 35 => ⟨S16x20000, .f32⟩
  | 36 => ⟨S16x20000, .f32⟩
  | 37 => ⟨S16x20000, .f32⟩
  | 38 => ⟨S_, .f32⟩
  | 39 => ⟨S16x20000, .f32⟩
  | 40 => ⟨S16x20000, .f32⟩
  | 41 => ⟨S_, .f32⟩
  | 42 => ⟨S_, .f32⟩
  | 43 => ⟨S_, .f32⟩
  | 44 => ⟨S16x20000, .f32⟩
  | 45 => ⟨S16x20000, .f32⟩
  | 46 => ⟨S_, .f32⟩
  | 47 => ⟨S16x20000, .f32⟩
  | 48 => ⟨S16x20000, .f32⟩
  | 49 => ⟨S16x20000, .f32⟩
  | 50 => ⟨S16x20000, .f32⟩
  | 51 => ⟨S16x20000, .f32⟩
  | 52 => ⟨S_, .f32⟩
  | 53 => ⟨S16, .f32⟩
  | 54 => ⟨S16x20000, .f32⟩
  | 55 => ⟨S_, .f32⟩
  | 56 => ⟨S16, .f32⟩
  | 57 => ⟨S16, .f32⟩
  | 58 => ⟨S16x20000, .f32⟩
  | 59 => ⟨S16x20000, .i32⟩
  | 60 => ⟨S_, .f32⟩
  | 61 => ⟨S_, .i32⟩
  | 62 => ⟨S16, .f32⟩
  | 63 => ⟨S16, .i32⟩
  | 64 => ⟨S16x1, .i32⟩
  | 65 => ⟨S_, .i32⟩
  | 66 => ⟨S16x1, .i32⟩
  | 67 => ⟨S16x1, .i1⟩
  | 68 => ⟨S_, .i32⟩
  | 69 => ⟨S16x1, .i32⟩
  | 70 => ⟨S16x1, .i32⟩
  | 71 => ⟨S16x1, .i32⟩
  | 72 => ⟨S16x1x1, .i32⟩
  | 73 => ⟨S16x1x2, .f32⟩
  | 74 => ⟨S16x2, .f32⟩
  | 75 => ⟨S16x2, .f32⟩
  | 76 => ⟨S16x2, .f32⟩
  | 77 => ⟨S_, .f32⟩
  | 78 => ⟨S16, .f32⟩
  | 79 => ⟨S_, .f32⟩
  | 80 => ⟨S16, .f32⟩
  | 81 => ⟨S16, .f32⟩
  | 82 => ⟨S16, .f32⟩
  | 83 => ⟨S16x20000, .i32⟩
  | 84 => ⟨S_, .f32⟩
  | 85 => ⟨S_, .i32⟩
  | 86 => ⟨S16, .f32⟩
  | 87 => ⟨S16, .i32⟩
  | 88 => ⟨S16x1, .i32⟩
  | 89 => ⟨S_, .i32⟩
  | 90 => ⟨S16x1, .i32⟩
  | 91 => ⟨S16x1, .i1⟩
  | 92 => ⟨S_, .i32⟩
  | 93 => ⟨S16x1, .i32⟩
  | 94 => ⟨S16x1, .i32⟩
  | 95 => ⟨S16x1, .i32⟩
  | 96 => ⟨S16x1x1, .i32⟩
  | 97 => ⟨S16x1x2, .f32⟩
  | 98 => ⟨S16x2, .f32⟩
  | 99 => ⟨S16x1x2, .f32⟩
  | 100 => ⟨S16x20000x2, .f32⟩
  | 101 => ⟨S16x20000x2, .f32⟩
  | 102 => ⟨S16x20000x2, .f32⟩
  | 103 => ⟨S_, .f32⟩
  | 104 => ⟨S16x20000, .f32⟩
  | 105 => ⟨S_, .f32⟩
  | 106 => ⟨S16x20000, .f32⟩
  | 107 => ⟨S16x20000, .f32⟩
  | 108 => ⟨S16x20000, .f32⟩
  | 109 => ⟨S_, .f32⟩
  | 110 => ⟨S16x20000, .f32⟩
  | 111 => ⟨S16x20000, .i1⟩
  | 112 => ⟨S_, .f32⟩
  | 113 => ⟨S_, .f32⟩
  | 114 => ⟨S20000, .f32⟩
  | 115 => ⟨S16x20000, .f32⟩
  | 116 => ⟨S16x20000, .f32⟩
  | 117 => ⟨S16x1, .i32⟩
  | 118 => ⟨S_, .i32⟩
  | 119 => ⟨S16x1, .i32⟩
  | 120 => ⟨S16x1, .i1⟩
  | 121 => ⟨S_, .i32⟩
  | 122 => ⟨S16x1, .i32⟩
  | 123 => ⟨S16x1, .i32⟩
  | 124 => ⟨S16x1, .i32⟩
  | 125 => ⟨S16x1x1, .i32⟩
  | 126 => ⟨S16x1, .f32⟩
  | 127 => ⟨S16, .f32⟩
  | _ => ⟨S16x20000x2, .f32⟩

abbrev hbmTy0_2 (i : Nat) : BufTy := match i % 128 with
  | 0 => ⟨S16x20000, .i32⟩
  | 1 => ⟨S_, .f32⟩
  | 2 => ⟨S_, .i32⟩
  | 3 => ⟨S16, .f32⟩
  | 4 => ⟨S16, .i32⟩
  | 5 => ⟨S16x1, .i32⟩
  | 6 => ⟨S_, .i32⟩
  | 7 => ⟨S16x1, .i32⟩
  | 8 => ⟨S16x1, .i1⟩
  | 9 => ⟨S_, .i32⟩
  | 10 => ⟨S16x1, .i32⟩
  | 11 => ⟨S16x1, .i32⟩
  | 12 => ⟨S16x1, .i32⟩
  | 13 => ⟨S16x1x1, .i32⟩
  | 14 => ⟨S16x1x2, .f32⟩
  | 15 => ⟨S16x2, .f32⟩
  | 16 => ⟨S16x1x2, .f32⟩
  | 17 => ⟨S16x20000x2, .f32⟩
  | 18 => ⟨S16x20000x2, .f32⟩
  | 19 => ⟨S16x20000x2, .f32⟩
  | 20 => ⟨S_, .f32⟩
  | 21 => ⟨S16x20000, .f32⟩
  | 22 => ⟨S_, .f32⟩
  | 23 => ⟨S16x20000, .f32⟩
  | 24 => ⟨S16x20000, .f32⟩
  | 25 => ⟨S16x20000, .f32⟩
  | 26 => ⟨S_, .f32⟩
  | 27 => ⟨S16x20000, .f32⟩
  | 28 => ⟨S16x20000, .i1⟩
  | 29 => ⟨S_, .f32⟩
  | 30 => ⟨S_, .f32⟩
  | 31 => ⟨S20000, .f32⟩
  | 32 => ⟨S16x20000, .f32⟩
  | 33 => ⟨S16x20000, .f32⟩
  | 34 => ⟨S16x1, .i32⟩
  | 35 => ⟨S_, .i32⟩
  | 36 => ⟨S16x1, .i32⟩
  | 37 => ⟨S16x1, .i1⟩
  | 38 => ⟨S_, .i32⟩
  | 39 => ⟨S16x1, .i32⟩
  | 40 => ⟨S16x1, .i32⟩
  | 41 => ⟨S16x1, .i32⟩
  | 42 => ⟨S16x1x1, .i32⟩
  | 43 => ⟨S16x1, .f32⟩
  | 44 => ⟨S16, .f32⟩
  | 45 => ⟨S16x20000, .i32⟩
  | 46 => ⟨S_, .f32⟩
  | 47 => ⟨S_, .i32⟩
  | 48 => ⟨S16, .f32⟩
  | 49 => ⟨S16, .i32⟩
  | 50 => ⟨S16x1, .i32⟩
  | 51 => ⟨S_, .i32⟩
  | 52 => ⟨S16x1, .i32⟩
  | 53 => ⟨S16x1, .i1⟩
  | 54 => ⟨S_, .i32⟩
  | 55 => ⟨S16x1, .i32⟩
  | 56 => ⟨S16x1, .i32⟩
  | 57 => ⟨S16x1, .i32⟩
  | 58 => ⟨S16x1x1, .i32⟩
  | 59 => ⟨S16x1x2, .f32⟩
  | 60 => ⟨S16x2, .f32⟩
  | 61 => ⟨S16x1x2, .f32⟩
  | 62 => ⟨S16x20000x2, .f32⟩
  | 63 => ⟨S16x20000x2, .f32⟩
  | 64 => ⟨S16x20000x2, .f32⟩
  | 65 => ⟨S_, .f32⟩
  | 66 => ⟨S16x20000, .f32⟩
  | 67 => ⟨S_, .f32⟩
  | 68 => ⟨S16x20000, .f32⟩
  | 69 => ⟨S16x20000, .f32⟩
  | 70 => ⟨S16x20000, .f32⟩
  | 71 => ⟨S_, .f32⟩
  | 72 => ⟨S16x20000, .f32⟩
  | 73 => ⟨S16x20000, .i1⟩
  | 74 => ⟨S_, .f32⟩
  | 75 => ⟨S_, .f32⟩
  | 76 => ⟨S20000, .f32⟩
  | 77 => ⟨S16x20000, .f32⟩
  | 78 => ⟨S16x20000, .f32⟩
  | 79 => ⟨S16x1, .i32⟩
  | 80 => ⟨S_, .i32⟩
  | 81 => ⟨S16x1, .i32⟩
  | 82 => ⟨S16x1, .i1⟩
  | 83 => ⟨S_, .i32⟩
  | 84 => ⟨S16x1, .i32⟩
  | 85 => ⟨S16x1, .i32⟩
  | 86 => ⟨S16x1, .i32⟩
  | 87 => ⟨S16x1x1, .i32⟩
  | 88 => ⟨S16x1, .f32⟩
  | 89 => ⟨S16, .f32⟩
  | 90 => ⟨S16x20000, .i32⟩
  | 91 => ⟨S_, .f32⟩
  | 92 => ⟨S_, .i32⟩
  | 93 => ⟨S16, .f32⟩
  | 94 => ⟨S16, .i32⟩
  | 95 => ⟨S16x1, .i32⟩
  | 96 => ⟨S_, .i32⟩
  | 97 => ⟨S16x1, .i32⟩
  | 98 => ⟨S16x1, .i1⟩
  | 99 => ⟨S_, .i32⟩
  | 100 => ⟨S16x1, .i32⟩
  | 101 => ⟨S16x1, .i32⟩
  | 102 => ⟨S16x1, .i32⟩
  | 103 => ⟨S16x1x1, .i32⟩
  | 104 => ⟨S16x1x2, .f32⟩
  | 105 => ⟨S16x2, .f32⟩
  | 106 => ⟨S16x1x2, .f32⟩
  | 107 => ⟨S16x20000x2, .f32⟩
  | 108 => ⟨S16x20000x2, .f32⟩
  | 109 => ⟨S16x20000x2, .f32⟩
  | 110 => ⟨S_, .f32⟩
  | 111 => ⟨S16x20000, .f32⟩
  | 112 => ⟨S_, .f32⟩
  | 113 => ⟨S16x20000, .f32⟩
  | 114 => ⟨S16x20000, .f32⟩
  | 115 => ⟨S16x20000, .f32⟩
  | 116 => ⟨S_, .f32⟩
  | 117 => ⟨S16x20000, .f32⟩
  | 118 => ⟨S16x20000, .i1⟩
  | 119 => ⟨S_, .f32⟩
  | 120 => ⟨S_, .f32⟩
  | 121 => ⟨S20000, .f32⟩
  | 122 => ⟨S16x20000, .f32⟩
  | 123 => ⟨S16x20000, .f32⟩
  | 124 => ⟨S16x1, .i32⟩
  | 125 => ⟨S_, .i32⟩
  | 126 => ⟨S16x1, .i32⟩
  | 127 => ⟨S16x1, .i1⟩
  | _ => ⟨S16x20000x2, .f32⟩

abbrev hbmTy0_3 (i : Nat) : BufTy := match i % 128 with
  | 0 => ⟨S_, .i32⟩
  | 1 => ⟨S16x1, .i32⟩
  | 2 => ⟨S16x1, .i32⟩
  | 3 => ⟨S16x1, .i32⟩
  | 4 => ⟨S16x1x1, .i32⟩
  | 5 => ⟨S16x1, .f32⟩
  | 6 => ⟨S16, .f32⟩
  | 7 => ⟨S16x20000, .i32⟩
  | 8 => ⟨S_, .f32⟩
  | 9 => ⟨S_, .i32⟩
  | 10 => ⟨S16, .f32⟩
  | 11 => ⟨S16, .i32⟩
  | 12 => ⟨S16x1, .i32⟩
  | 13 => ⟨S_, .i32⟩
  | 14 => ⟨S16x1, .i32⟩
  | 15 => ⟨S16x1, .i1⟩
  | 16 => ⟨S_, .i32⟩
  | 17 => ⟨S16x1, .i32⟩
  | 18 => ⟨S16x1, .i32⟩
  | 19 => ⟨S16x1, .i32⟩
  | 20 => ⟨S16x1x1, .i32⟩
  | 21 => ⟨S16x1x2, .f32⟩
  | 22 => ⟨S16x2, .f32⟩
  | 23 => ⟨S16x1x2, .f32⟩
  | 24 => ⟨S16x20000x2, .f32⟩
  | 25 => ⟨S16x20000x2, .f32⟩
  | 26 => ⟨S16x20000x2, .f32⟩
  | 27 => ⟨S_, .f32⟩
  | 28 => ⟨S16x20000, .f32⟩
  | 29 => ⟨S_, .f32⟩
  | 30 => ⟨S16x20000, .f32⟩
  | 31 => ⟨S16x20000, .f32⟩
  | 32 => ⟨S16x20000, .f32⟩
  | 33 => ⟨S_, .f32⟩
  | 34 => ⟨S16x20000, .f32⟩
  | 35 => ⟨S16x20000, .i1⟩
  | 36 => ⟨S_, .f32⟩
  | 37 => ⟨S_, .f32⟩
  | 38 => ⟨S20000, .f32⟩
  | 39 => ⟨S16x20000, .f32⟩
  | 40 => ⟨S16x20000, .f32⟩
  | 41 => ⟨S16x1, .i32⟩
  | 42 => ⟨S_, .i32⟩
  | 43 => ⟨S16x1, .i32⟩
  | 44 => ⟨S16x1, .i1⟩
  | 45 => ⟨S_, .i32⟩
  | 46 => ⟨S16x1, .i32⟩
  | 47 => ⟨S16x1, .i32⟩
  | 48 => ⟨S16x1, .i32⟩
  | 49 => ⟨S16x1x1, .i32⟩
  | 50 => ⟨S16x1, .f32⟩
  | 51 => ⟨S16, .f32⟩
  | 52 => ⟨S16x20000, .i32⟩
  | 53 => ⟨S_, .f32⟩
  | 54 => ⟨S_, .i32⟩
  | 55 => ⟨S16, .f32⟩
  | 56 => ⟨S16, .i32⟩
  | 57 => ⟨S16x1, .i32⟩
  | 58 => ⟨S_, .i32⟩
  | 59 => ⟨S16x1, .i32⟩
  | 60 => ⟨S16x1, .i1⟩
  | 61 => ⟨S_, .i32⟩
  | 62 => ⟨S16x1, .i32⟩
  | 63 => ⟨S16x1, .i32⟩
  | 64 => ⟨S16x1, .i32⟩
  | 65 => ⟨S16x1x1, .i32⟩
  | 66 => ⟨S16x1x2, .f32⟩
  | 67 => ⟨S16x2, .f32⟩
  | 68 => ⟨S16x1x2, .f32⟩
  | 69 => ⟨S16x20000x2, .f32⟩
  | 70 => ⟨S16x20000x2, .f32⟩
  | 71 => ⟨S16x20000x2, .f32⟩
  | 72 => ⟨S_, .f32⟩
  | 73 => ⟨S16x20000, .f32⟩
  | 74 => ⟨S_, .f32⟩
  | 75 => ⟨S16x20000, .f32⟩
  | 76 => ⟨S16x20000, .f32⟩
  | 77 => ⟨S16x20000, .f32⟩
  | 78 => ⟨S_, .f32⟩
  | 79 => ⟨S16x20000, .f32⟩
  | 80 => ⟨S16x20000, .i1⟩
  | 81 => ⟨S_, .f32⟩
  | 82 => ⟨S_, .f32⟩
  | 83 => ⟨S20000, .f32⟩
  | 84 => ⟨S16x20000, .f32⟩
  | 85 => ⟨S16x20000, .f32⟩
  | 86 => ⟨S16x1, .i32⟩
  | 87 => ⟨S_, .i32⟩
  | 88 => ⟨S16x1, .i32⟩
  | 89 => ⟨S16x1, .i1⟩
  | 90 => ⟨S_, .i32⟩
  | 91 => ⟨S16x1, .i32⟩
  | 92 => ⟨S16x1, .i32⟩
  | 93 => ⟨S16x1, .i32⟩
  | 94 => ⟨S16x1x1, .i32⟩
  | 95 => ⟨S16x1, .f32⟩
  | 96 => ⟨S16, .f32⟩
  | 97 => ⟨S1x16, .i32⟩
  | 98 => ⟨S1x16, .i32⟩
  | 99 => ⟨S1x16, .i32⟩
  | 100 => ⟨S1x16, .i32⟩
  | 101 => ⟨S1x16, .i32⟩
  | 102 => ⟨S1x16, .i32⟩
  | 103 => ⟨S6x16, .i32⟩
  | 104 => ⟨S1x16, .f32⟩
  | 105 => ⟨S1x16, .f32⟩
  | 106 => ⟨S1x16, .f32⟩
  | 107 => ⟨S1x16, .f32⟩
  | 108 => ⟨S1x16, .f32⟩
  | 109 => ⟨S1x16, .f32⟩
  | 110 => ⟨S6x16, .f32⟩
  | 111 => ⟨S_, .i32⟩
  | 112 => ⟨S6x16, .i32⟩
  | 113 => ⟨S6x16, .i1⟩
  | 114 => ⟨S_, .i32⟩
  | 115 => ⟨S6x16, .i32⟩
  | 116 => ⟨S6x16, .i32⟩
  | 117 => ⟨S6x16, .i32⟩
  | 118 => ⟨S16x6, .i32⟩
  | 119 => ⟨S16x6x1, .i32⟩
  | 120 => ⟨S16x6x30x2, .f32⟩
  | 121 => ⟨S_, .i32⟩
  | 122 => ⟨S16x10, .i32⟩
  | 123 => ⟨S16x10, .i1⟩
  | 124 => ⟨S_, .i32⟩
  | 125 => ⟨S16x10, .i32⟩
  | 126 => ⟨S16x10, .i32⟩
  | 127 => ⟨S16x10, .i32⟩
  | _ => ⟨S16x20000x2, .f32⟩

abbrev hbmTy0_4 (i : Nat) : BufTy := match i % 128 with
  | 0 => ⟨S16x10x1, .i32⟩
  | 1 => ⟨S16x10x30x2, .f32⟩
  | 2 => ⟨S16x10x30x2, .f32⟩
  | 3 => ⟨S16x10x30x2, .f32⟩
  | 4 => ⟨S16x10x30x2, .f32⟩
  | 5 => ⟨S_, .f32⟩
  | 6 => ⟨S16x10x30x2, .f32⟩
  | 7 => ⟨S16x10x30x2, .i1⟩
  | 8 => ⟨S_, .f32⟩
  | 9 => ⟨S16x10x30x2, .f32⟩
  | 10 => ⟨S16x10x30x2, .f32⟩
  | 11 => ⟨S16x10x30x2, .f32⟩
  | 12 => ⟨S_, .f32⟩
  | 13 => ⟨S16x10x30x2, .f32⟩
  | 14 => ⟨S16x10x30x2, .f32⟩
  | 15 => ⟨S16x10x30x2, .f32⟩
  | 16 => ⟨S_, .f32⟩
  | 17 => ⟨S16, .f32⟩
  | 18 => ⟨S_, .f32⟩
  | 19 => ⟨S16, .f32⟩
  | 20 => ⟨S16, .f32⟩
  | 21 => ⟨S16, .f32⟩
  | 22 => ⟨S16, .f32⟩
  | 23 => ⟨S16, .f32⟩
  | 24 => ⟨S16, .f32⟩
  | 25 => ⟨S16x6, .f32⟩
  | 26 => ⟨S_, .f32⟩
  | 27 => ⟨S_, .f32⟩
  | 28 => ⟨S_, .f32⟩
  | 29 => ⟨S_, .f32⟩
  | _ => ⟨S16x20000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x20000x2, .f32⟩

abbrev bufTy : (tb : Table) → Fin (tcTables nBuf tb) → BufTy
  | .hbm, ⟨i, _⟩ => hbmTy i
  | _, _ => ⟨S16x20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_values : Ref sig .tc := ⟨.hbm, 36, rfl⟩
abbrev main_indices : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_7 : Ref sig .tc := ⟨.hbm, 47, rfl⟩
abbrev main_v26 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_c_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_cst_14 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_15 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_cst_18 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_19 : Ref sig .tc := ⟨.hbm, 102, rfl⟩
abbrev main_v64 : Ref sig .tc := ⟨.hbm, 103, rfl⟩
abbrev main_v65 : Ref sig .tc := ⟨.hbm, 104, rfl⟩
abbrev main_cst_20 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_21 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_22 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_v74 : Ref sig .tc := ⟨.hbm, 117, rfl⟩
abbrev main_cst_24 : Ref sig .tc := ⟨.hbm, 118, rfl⟩
abbrev main_v75 : Ref sig .tc := ⟨.hbm, 119, rfl⟩
abbrev main_cst_25 : Ref sig .tc := ⟨.hbm, 120, rfl⟩
abbrev main_cst_26 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_27 : Ref sig .tc := ⟨.hbm, 132, rfl⟩
abbrev main_v81 : Ref sig .tc := ⟨.hbm, 133, rfl⟩
abbrev main_v82 : Ref sig .tc := ⟨.hbm, 134, rfl⟩
abbrev main_cst_28 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_29 : Ref sig .tc := ⟨.hbm, 144, rfl⟩
abbrev main_v91 : Ref sig .tc := ⟨.hbm, 145, rfl⟩
abbrev main_cst_30 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_c_31 : Ref sig .tc := ⟨.hbm, 156, rfl⟩
abbrev main_v101 : Ref sig .tc := ⟨.hbm, 157, rfl⟩
abbrev main_cst_32 : Ref sig .tc := ⟨.hbm, 158, rfl⟩
abbrev main_cst_33 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_v102 : Ref sig .tc := ⟨.hbm, 164, rfl⟩
abbrev main_v103 : Ref sig .tc := ⟨.hbm, 165, rfl⟩
abbrev main_cst_34 : Ref sig .tc := ⟨.hbm, 166, rfl⟩
abbrev main_v104 : Ref sig .tc := ⟨.hbm, 167, rfl⟩
abbrev main_v105 : Ref sig .tc := ⟨.hbm, 168, rfl⟩
abbrev main_cst_35 : Ref sig .tc := ⟨.hbm, 169, rfl⟩
abbrev main_cst_36 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_37 : Ref sig .tc := ⟨.hbm, 180, rfl⟩
abbrev main_v110 : Ref sig .tc := ⟨.hbm, 181, rfl⟩
abbrev main_v111 : Ref sig .tc := ⟨.hbm, 182, rfl⟩
abbrev main_cst_38 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call7_v0 : Ref sig .tc := ⟨.hbm, 187, rfl⟩
abbrev main_call7_cst : Ref sig .tc := ⟨.hbm, 188, rfl⟩
abbrev main_call7_c : Ref sig .tc := ⟨.hbm, 189, rfl⟩
abbrev main_call7_v1_0 : Ref sig .tc := ⟨.hbm, 190, rfl⟩
abbrev main_v115 : Ref sig .tc := ⟨.hbm, 191, rfl⟩
abbrev main_v116 : Ref sig .tc := ⟨.hbm, 192, rfl⟩
abbrev main_c_39 : Ref sig .tc := ⟨.hbm, 193, rfl⟩
abbrev main_v117 : Ref sig .tc := ⟨.hbm, 194, rfl⟩
abbrev main_v118 : Ref sig .tc := ⟨.hbm, 195, rfl⟩
abbrev main_c_40 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_41 : Ref sig .tc := ⟨.hbm, 205, rfl⟩
abbrev main_v127 : Ref sig .tc := ⟨.hbm, 206, rfl⟩
abbrev main_cst_42 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_call8_v0 : Ref sig .tc := ⟨.hbm, 211, rfl⟩
abbrev main_call8_cst : Ref sig .tc := ⟨.hbm, 212, rfl⟩
abbrev main_call8_c : Ref sig .tc := ⟨.hbm, 213, rfl⟩
abbrev main_call8_v1_0 : Ref sig .tc := ⟨.hbm, 214, rfl⟩
abbrev main_v131 : Ref sig .tc := ⟨.hbm, 215, rfl⟩
abbrev main_v132 : Ref sig .tc := ⟨.hbm, 216, rfl⟩
abbrev main_c_43 : Ref sig .tc := ⟨.hbm, 217, rfl⟩
abbrev main_v133 : Ref sig .tc := ⟨.hbm, 218, rfl⟩
abbrev main_v134 : Ref sig .tc := ⟨.hbm, 219, rfl⟩
abbrev main_c_44 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_cst_45 : Ref sig .tc := ⟨.hbm, 231, rfl⟩
abbrev main_v145 : Ref sig .tc := ⟨.hbm, 232, rfl⟩
abbrev main_cst_46 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_47 : Ref sig .tc := ⟨.hbm, 237, rfl⟩
abbrev main_v149 : Ref sig .tc := ⟨.hbm, 238, rfl⟩
abbrev main_v150 : Ref sig .tc := ⟨.hbm, 239, rfl⟩
abbrev main_cst_48 : Ref sig .tc := ⟨.hbm, 240, rfl⟩
abbrev main_call9_v0 : Ref sig .tc := ⟨.hbm, 241, rfl⟩
abbrev main_call9_v1 : Ref sig .tc := ⟨.hbm, 242, rfl⟩
abbrev main_call9_v2 : Ref sig .tc := ⟨.hbm, 243, rfl⟩
abbrev main_v151 : Ref sig .tc := ⟨.hbm, 244, rfl⟩
abbrev main_v152 : Ref sig .tc := ⟨.hbm, 245, rfl⟩
abbrev main_c_49 : Ref sig .tc := ⟨.hbm, 246, rfl⟩
abbrev main_v153 : Ref sig .tc := ⟨.hbm, 247, rfl⟩
abbrev main_v154 : Ref sig .tc := ⟨.hbm, 248, rfl⟩
abbrev main_c_50 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_call10_v0 : Ref sig .tc := ⟨.hbm, 256, rfl⟩
abbrev main_call10_cst : Ref sig .tc := ⟨.hbm, 257, rfl⟩
abbrev main_call10_c : Ref sig .tc := ⟨.hbm, 258, rfl⟩
abbrev main_call10_v1_0 : Ref sig .tc := ⟨.hbm, 259, rfl⟩
abbrev main_v161 : Ref sig .tc := ⟨.hbm, 260, rfl⟩
abbrev main_v162 : Ref sig .tc := ⟨.hbm, 261, rfl⟩
abbrev main_c_51 : Ref sig .tc := ⟨.hbm, 262, rfl⟩
abbrev main_v163 : Ref sig .tc := ⟨.hbm, 263, rfl⟩
abbrev main_v164 : Ref sig .tc := ⟨.hbm, 264, rfl⟩
abbrev main_c_52 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_cst_53 : Ref sig .tc := ⟨.hbm, 276, rfl⟩
abbrev main_v175 : Ref sig .tc := ⟨.hbm, 277, rfl⟩
abbrev main_cst_54 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_55 : Ref sig .tc := ⟨.hbm, 282, rfl⟩
abbrev main_v179 : Ref sig .tc := ⟨.hbm, 283, rfl⟩
abbrev main_v180 : Ref sig .tc := ⟨.hbm, 284, rfl⟩
abbrev main_cst_56 : Ref sig .tc := ⟨.hbm, 285, rfl⟩
abbrev main_call11_v0 : Ref sig .tc := ⟨.hbm, 286, rfl⟩
abbrev main_call11_v1 : Ref sig .tc := ⟨.hbm, 287, rfl⟩
abbrev main_call11_v2 : Ref sig .tc := ⟨.hbm, 288, rfl⟩
abbrev main_v181 : Ref sig .tc := ⟨.hbm, 289, rfl⟩
abbrev main_v182 : Ref sig .tc := ⟨.hbm, 290, rfl⟩
abbrev main_c_57 : Ref sig .tc := ⟨.hbm, 291, rfl⟩
abbrev main_v183 : Ref sig .tc := ⟨.hbm, 292, rfl⟩
abbrev main_v184 : Ref sig .tc := ⟨.hbm, 293, rfl⟩
abbrev main_c_58 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_call12_v0 : Ref sig .tc := ⟨.hbm, 301, rfl⟩
abbrev main_call12_cst : Ref sig .tc := ⟨.hbm, 302, rfl⟩
abbrev main_call12_c : Ref sig .tc := ⟨.hbm, 303, rfl⟩
abbrev main_call12_v1_0 : Ref sig .tc := ⟨.hbm, 304, rfl⟩
abbrev main_v191 : Ref sig .tc := ⟨.hbm, 305, rfl⟩
abbrev main_v192 : Ref sig .tc := ⟨.hbm, 306, rfl⟩
abbrev main_c_59 : Ref sig .tc := ⟨.hbm, 307, rfl⟩
abbrev main_v193 : Ref sig .tc := ⟨.hbm, 308, rfl⟩
abbrev main_v194 : Ref sig .tc := ⟨.hbm, 309, rfl⟩
abbrev main_c_60 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_cst_61 : Ref sig .tc := ⟨.hbm, 321, rfl⟩
abbrev main_v205 : Ref sig .tc := ⟨.hbm, 322, rfl⟩
abbrev main_cst_62 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_cst_63 : Ref sig .tc := ⟨.hbm, 327, rfl⟩
abbrev main_v209 : Ref sig .tc := ⟨.hbm, 328, rfl⟩
abbrev main_v210 : Ref sig .tc := ⟨.hbm, 329, rfl⟩
abbrev main_cst_64 : Ref sig .tc := ⟨.hbm, 330, rfl⟩
abbrev main_call13_v0 : Ref sig .tc := ⟨.hbm, 331, rfl⟩
abbrev main_call13_v1 : Ref sig .tc := ⟨.hbm, 332, rfl⟩
abbrev main_call13_v2 : Ref sig .tc := ⟨.hbm, 333, rfl⟩
abbrev main_v211 : Ref sig .tc := ⟨.hbm, 334, rfl⟩
abbrev main_v212 : Ref sig .tc := ⟨.hbm, 335, rfl⟩
abbrev main_c_65 : Ref sig .tc := ⟨.hbm, 336, rfl⟩
abbrev main_v213 : Ref sig .tc := ⟨.hbm, 337, rfl⟩
abbrev main_v214 : Ref sig .tc := ⟨.hbm, 338, rfl⟩
abbrev main_c_66 : Ref sig .tc := ⟨.hbm, 339, rfl⟩
abbrev main_v215 : Ref sig .tc := ⟨.hbm, 340, rfl⟩
abbrev main_v216 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_call14_v0 : Ref sig .tc := ⟨.hbm, 346, rfl⟩
abbrev main_call14_cst : Ref sig .tc := ⟨.hbm, 347, rfl⟩
abbrev main_call14_c : Ref sig .tc := ⟨.hbm, 348, rfl⟩
abbrev main_call14_v1_0 : Ref sig .tc := ⟨.hbm, 349, rfl⟩
abbrev main_v221 : Ref sig .tc := ⟨.hbm, 350, rfl⟩
abbrev main_v222 : Ref sig .tc := ⟨.hbm, 351, rfl⟩
abbrev main_c_67 : Ref sig .tc := ⟨.hbm, 352, rfl⟩
abbrev main_v223 : Ref sig .tc := ⟨.hbm, 353, rfl⟩
abbrev main_v224 : Ref sig .tc := ⟨.hbm, 354, rfl⟩
abbrev main_c_68 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_cst_69 : Ref sig .tc := ⟨.hbm, 366, rfl⟩
abbrev main_v235 : Ref sig .tc := ⟨.hbm, 367, rfl⟩
abbrev main_cst_70 : Ref sig .tc := ⟨.hbm, 368, rfl⟩
abbrev main_v236 : Ref sig .tc := ⟨.hbm, 369, rfl⟩
abbrev main_v237 : Ref sig .tc := ⟨.hbm, 370, rfl⟩
abbrev main_v238 : Ref sig .tc := ⟨.hbm, 371, rfl⟩
abbrev main_cst_71 : Ref sig .tc := ⟨.hbm, 372, rfl⟩
abbrev main_v239 : Ref sig .tc := ⟨.hbm, 373, rfl⟩
abbrev main_v240 : Ref sig .tc := ⟨.hbm, 374, rfl⟩
abbrev main_cst_72 : Ref sig .tc := ⟨.hbm, 375, rfl⟩
abbrev main_call15_v0 : Ref sig .tc := ⟨.hbm, 376, rfl⟩
abbrev main_call15_v1 : Ref sig .tc := ⟨.hbm, 377, rfl⟩
abbrev main_call15_v2 : Ref sig .tc := ⟨.hbm, 378, rfl⟩
abbrev main_v241 : Ref sig .tc := ⟨.hbm, 379, rfl⟩
abbrev main_v242 : Ref sig .tc := ⟨.hbm, 380, rfl⟩
abbrev main_c_73 : Ref sig .tc := ⟨.hbm, 381, rfl⟩
abbrev main_v243 : Ref sig .tc := ⟨.hbm, 382, rfl⟩
abbrev main_v244 : Ref sig .tc := ⟨.hbm, 383, rfl⟩
abbrev main_c_74 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_call16_v0 : Ref sig .tc := ⟨.hbm, 391, rfl⟩
abbrev main_call16_cst : Ref sig .tc := ⟨.hbm, 392, rfl⟩
abbrev main_call16_c : Ref sig .tc := ⟨.hbm, 393, rfl⟩
abbrev main_call16_v1_0 : Ref sig .tc := ⟨.hbm, 394, rfl⟩
abbrev main_v251 : Ref sig .tc := ⟨.hbm, 395, rfl⟩
abbrev main_v252 : Ref sig .tc := ⟨.hbm, 396, rfl⟩
abbrev main_c_75 : Ref sig .tc := ⟨.hbm, 397, rfl⟩
abbrev main_v253 : Ref sig .tc := ⟨.hbm, 398, rfl⟩
abbrev main_v254 : Ref sig .tc := ⟨.hbm, 399, rfl⟩
abbrev main_c_76 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev main_v264 : Ref sig .tc := ⟨.hbm, 410, rfl⟩
abbrev main_cst_77 : Ref sig .tc := ⟨.hbm, 411, rfl⟩
abbrev main_v265 : Ref sig .tc := ⟨.hbm, 412, rfl⟩
abbrev main_cst_78 : Ref sig .tc := ⟨.hbm, 413, rfl⟩
abbrev main_v266 : Ref sig .tc := ⟨.hbm, 414, rfl⟩
abbrev main_v267 : Ref sig .tc := ⟨.hbm, 415, rfl⟩
abbrev main_v268 : Ref sig .tc := ⟨.hbm, 416, rfl⟩
abbrev main_cst_79 : Ref sig .tc := ⟨.hbm, 417, rfl⟩
abbrev main_v269 : Ref sig .tc := ⟨.hbm, 418, rfl⟩
abbrev main_v270 : Ref sig .tc := ⟨.hbm, 419, rfl⟩
abbrev main_cst_80 : Ref sig .tc := ⟨.hbm, 420, rfl⟩
abbrev main_call17_v0 : Ref sig .tc := ⟨.hbm, 421, rfl⟩
abbrev main_call17_v1 : Ref sig .tc := ⟨.hbm, 422, rfl⟩
abbrev main_call17_v2 : Ref sig .tc := ⟨.hbm, 423, rfl⟩
abbrev main_v271 : Ref sig .tc := ⟨.hbm, 424, rfl⟩
abbrev main_v272 : Ref sig .tc := ⟨.hbm, 425, rfl⟩
abbrev main_c_81 : Ref sig .tc := ⟨.hbm, 426, rfl⟩
abbrev main_v273 : Ref sig .tc := ⟨.hbm, 427, rfl⟩
abbrev main_v274 : Ref sig .tc := ⟨.hbm, 428, rfl⟩
abbrev main_c_82 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_v280 : Ref sig .tc := ⟨.hbm, 435, rfl⟩
abbrev main_call18_v0 : Ref sig .tc := ⟨.hbm, 436, rfl⟩
abbrev main_call18_cst : Ref sig .tc := ⟨.hbm, 437, rfl⟩
abbrev main_call18_c : Ref sig .tc := ⟨.hbm, 438, rfl⟩
abbrev main_call18_v1_0 : Ref sig .tc := ⟨.hbm, 439, rfl⟩
abbrev main_v281 : Ref sig .tc := ⟨.hbm, 440, rfl⟩
abbrev main_v282 : Ref sig .tc := ⟨.hbm, 441, rfl⟩
abbrev main_c_83 : Ref sig .tc := ⟨.hbm, 442, rfl⟩
abbrev main_v283 : Ref sig .tc := ⟨.hbm, 443, rfl⟩
abbrev main_v284 : Ref sig .tc := ⟨.hbm, 444, rfl⟩
abbrev main_c_84 : Ref sig .tc := ⟨.hbm, 445, rfl⟩
abbrev main_v285 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_v289 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_cst_85 : Ref sig .tc := ⟨.hbm, 456, rfl⟩
abbrev main_v295 : Ref sig .tc := ⟨.hbm, 457, rfl⟩
abbrev main_cst_86 : Ref sig .tc := ⟨.hbm, 458, rfl⟩
abbrev main_v296 : Ref sig .tc := ⟨.hbm, 459, rfl⟩
abbrev main_v297 : Ref sig .tc := ⟨.hbm, 460, rfl⟩
abbrev main_v298 : Ref sig .tc := ⟨.hbm, 461, rfl⟩
abbrev main_cst_87 : Ref sig .tc := ⟨.hbm, 462, rfl⟩
abbrev main_v299 : Ref sig .tc := ⟨.hbm, 463, rfl⟩
abbrev main_v300 : Ref sig .tc := ⟨.hbm, 464, rfl⟩
abbrev main_cst_88 : Ref sig .tc := ⟨.hbm, 465, rfl⟩
abbrev main_call19_v0 : Ref sig .tc := ⟨.hbm, 466, rfl⟩
abbrev main_call19_v1 : Ref sig .tc := ⟨.hbm, 467, rfl⟩
abbrev main_call19_v2 : Ref sig .tc := ⟨.hbm, 468, rfl⟩
abbrev main_v301 : Ref sig .tc := ⟨.hbm, 469, rfl⟩
abbrev main_v302 : Ref sig .tc := ⟨.hbm, 470, rfl⟩
abbrev main_c_89 : Ref sig .tc := ⟨.hbm, 471, rfl⟩
abbrev main_v303 : Ref sig .tc := ⟨.hbm, 472, rfl⟩
abbrev main_v304 : Ref sig .tc := ⟨.hbm, 473, rfl⟩
abbrev main_c_90 : Ref sig .tc := ⟨.hbm, 474, rfl⟩
abbrev main_v305 : Ref sig .tc := ⟨.hbm, 475, rfl⟩
abbrev main_v306 : Ref sig .tc := ⟨.hbm, 476, rfl⟩
abbrev main_v307 : Ref sig .tc := ⟨.hbm, 477, rfl⟩
abbrev main_v308 : Ref sig .tc := ⟨.hbm, 478, rfl⟩
abbrev main_v309 : Ref sig .tc := ⟨.hbm, 479, rfl⟩
abbrev main_v310 : Ref sig .tc := ⟨.hbm, 480, rfl⟩
abbrev main_v311 : Ref sig .tc := ⟨.hbm, 481, rfl⟩
abbrev main_v312 : Ref sig .tc := ⟨.hbm, 482, rfl⟩
abbrev main_v313 : Ref sig .tc := ⟨.hbm, 483, rfl⟩
abbrev main_v314 : Ref sig .tc := ⟨.hbm, 484, rfl⟩
abbrev main_v315 : Ref sig .tc := ⟨.hbm, 485, rfl⟩
abbrev main_v316 : Ref sig .tc := ⟨.hbm, 486, rfl⟩
abbrev main_v317 : Ref sig .tc := ⟨.hbm, 487, rfl⟩
abbrev main_v318 : Ref sig .tc := ⟨.hbm, 488, rfl⟩
abbrev main_v319 : Ref sig .tc := ⟨.hbm, 489, rfl⟩
abbrev main_v320 : Ref sig .tc := ⟨.hbm, 490, rfl⟩
abbrev main_v321 : Ref sig .tc := ⟨.hbm, 491, rfl⟩
abbrev main_v322 : Ref sig .tc := ⟨.hbm, 492, rfl⟩
abbrev main_v323 : Ref sig .tc := ⟨.hbm, 493, rfl⟩
abbrev main_v324 : Ref sig .tc := ⟨.hbm, 494, rfl⟩
abbrev main_c_91 : Ref sig .tc := ⟨.hbm, 495, rfl⟩
abbrev main_v325 : Ref sig .tc := ⟨.hbm, 496, rfl⟩
abbrev main_v326 : Ref sig .tc := ⟨.hbm, 497, rfl⟩
abbrev main_c_92 : Ref sig .tc := ⟨.hbm, 498, rfl⟩
abbrev main_v327 : Ref sig .tc := ⟨.hbm, 499, rfl⟩
abbrev main_v328 : Ref sig .tc := ⟨.hbm, 500, rfl⟩
abbrev main_v329 : Ref sig .tc := ⟨.hbm, 501, rfl⟩
abbrev main_v330 : Ref sig .tc := ⟨.hbm, 502, rfl⟩
abbrev main_v331 : Ref sig .tc := ⟨.hbm, 503, rfl⟩
abbrev main_v332 : Ref sig .tc := ⟨.hbm, 504, rfl⟩
abbrev main_c_93 : Ref sig .tc := ⟨.hbm, 505, rfl⟩
abbrev main_v333 : Ref sig .tc := ⟨.hbm, 506, rfl⟩
abbrev main_v334 : Ref sig .tc := ⟨.hbm, 507, rfl⟩
abbrev main_c_94 : Ref sig .tc := ⟨.hbm, 508, rfl⟩
abbrev main_v335 : Ref sig .tc := ⟨.hbm, 509, rfl⟩
abbrev main_v336 : Ref sig .tc := ⟨.hbm, 510, rfl⟩
abbrev main_v337 : Ref sig .tc := ⟨.hbm, 511, rfl⟩
abbrev main_v338 : Ref sig .tc := ⟨.hbm, 512, rfl⟩
abbrev main_v339 : Ref sig .tc := ⟨.hbm, 513, rfl⟩
abbrev main_v340 : Ref sig .tc := ⟨.hbm, 514, rfl⟩
abbrev main_v341 : Ref sig .tc := ⟨.hbm, 515, rfl⟩
abbrev main_v342 : Ref sig .tc := ⟨.hbm, 516, rfl⟩
abbrev main_cst_95 : Ref sig .tc := ⟨.hbm, 517, rfl⟩
abbrev main_v343 : Ref sig .tc := ⟨.hbm, 518, rfl⟩
abbrev main_v344 : Ref sig .tc := ⟨.hbm, 519, rfl⟩
abbrev main_cst_96 : Ref sig .tc := ⟨.hbm, 520, rfl⟩
abbrev main_v345 : Ref sig .tc := ⟨.hbm, 521, rfl⟩
abbrev main_v346 : Ref sig .tc := ⟨.hbm, 522, rfl⟩
abbrev main_v347 : Ref sig .tc := ⟨.hbm, 523, rfl⟩
abbrev main_cst_97 : Ref sig .tc := ⟨.hbm, 524, rfl⟩
abbrev main_v348 : Ref sig .tc := ⟨.hbm, 525, rfl⟩
abbrev main_v349 : Ref sig .tc := ⟨.hbm, 526, rfl⟩
abbrev main_v350 : Ref sig .tc := ⟨.hbm, 527, rfl⟩
abbrev main_cst_98 : Ref sig .tc := ⟨.hbm, 528, rfl⟩
abbrev main_v351 : Ref sig .tc := ⟨.hbm, 529, rfl⟩
abbrev main_cst_99 : Ref sig .tc := ⟨.hbm, 530, rfl⟩
abbrev main_v352 : Ref sig .tc := ⟨.hbm, 531, rfl⟩
abbrev main_v353 : Ref sig .tc := ⟨.hbm, 532, rfl⟩
abbrev main_v354 : Ref sig .tc := ⟨.hbm, 533, rfl⟩
abbrev main_v355 : Ref sig .tc := ⟨.hbm, 534, rfl⟩
abbrev main_v356 : Ref sig .tc := ⟨.hbm, 535, rfl⟩
abbrev main_v357 : Ref sig .tc := ⟨.hbm, 536, rfl⟩
abbrev main_v358 : Ref sig .tc := ⟨.hbm, 537, rfl⟩
abbrev main_cst_100 : Ref sig .tc := ⟨.hbm, 538, rfl⟩
abbrev main_v359 : Ref sig .tc := ⟨.hbm, 539, rfl⟩
abbrev main_cst_101 : Ref sig .tc := ⟨.hbm, 540, rfl⟩
abbrev main_v360 : Ref sig .tc := ⟨.hbm, 541, rfl⟩

abbrev nD : Nat := 1
abbrev τ : Topo := Topo.v7x

variable {F : FTy → Type} [FloatOps F]
-- ==== Proof.Line.lean ====
module

public import proofs.«01_k».proof.Proof.Gen.ReferenceIdeal
public import Idealize.ShloMosaic.Lib.StableHlo.RunHlo
public import Idealize.ShloMosaic.Lib.StableHlo.RunRead

@[expose] public section

noncomputable section

/-! The reference's run: its statements as one straight line of host operations. -/

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The programs of the reference. -/
abbrev RProg (F : FTy → Type) [FloatOps F] :=
  Prog (TpuEff nD τ sig (Elt F) (Pipeline.Sig Λ₀ (Fin 0) fun p => (pcfgs (F := F) p).Adm) .tc) PUnit

/-- An operation that touches only buffers of the core and allocates none. -/
class Plain (op : HloOp τ sig (Elt F)) : Prop where
  sub : op.bufs ⊆ tcRefs τ sig
  fresh : op.fresh = ∅

section
variable {x a b c d y : Ref sig .tc}
instance (v) (hy) : Plain (F := F) (nullary y v hy) := ⟨nullary_bufs_sub .., rfl⟩
instance (f) (hx hy) : Plain (F := F) (unary x y f hx hy) := ⟨unary_bufs_sub .., rfl⟩
instance (f) (ha hb hy) : Plain (F := F) (binary a b y f ha hb hy) := ⟨binary_bufs_sub .., rfl⟩
instance (f) (hc ha hb hy) : Plain (F := F) (ternary c a b y f hc ha hb hy) := ⟨ternary_bufs_sub .., rfl⟩
instance (f) (ha hb hc hd hy) : Plain (F := F) (quaternary a b c d y f ha hb hc hd hy) := ⟨quaternary_bufs_sub .., rfl⟩
instance (he hn hx hy) : Plain (F := F) (reshape x y he hn hx hy) := ⟨reshape_bufs_sub .., rfl⟩
instance {n : Nat} (xs : Fin n → Ref sig .tc) (f) (hxs hy) : Plain (F := F) (nary xs y f hxs hy) := ⟨nary_bufs_sub .., rfl⟩
end

/-- A program that is a straight line of plain operations, with its operations. -/
structure Line (p : RProg F) where
  ops : List (HloOp τ sig (Elt F))
  eq : IsSeq p ops
  plain : ∀ op ∈ ops, Plain op

namespace Line

def nil : Line (F := F) (pure ⟨⟩) := ⟨[], rfl, by simp⟩

def last (op : HloOp τ sig (Elt F)) [Plain op] : Line (F := F) (hlo rfl op fun _ => .ret (⟨⟩ : PUnit)) :=
  ⟨[op], rfl, by simpa using ‹Plain op›⟩

def cons (op : HloOp τ sig (Elt F)) [Plain op] {k : RProg F} (L : Line k) :
    Line (F := F) ((hlo rfl op fun _ => .ret (⟨⟩ : PUnit)) >>= fun _ => k) :=
  ⟨op :: L.ops, IsSeq.cons L.eq, by
    intro o ho
    rcases List.mem_cons.1 ho with rfl | h
    · assumption
    · exact L.plain o h⟩

def call {p k : RProg F} (L : Line p) (M : Line k) : Line (F := F) (p >>= fun _ => k) :=
  ⟨L.ops ++ M.ops, by
    have h := seq_append (nD := nD) (Λ := Pipeline.Sig Λ₀ (Fin 0) fun p => (pcfgs (F := F) p).Adm) L.ops M.ops
    have hL : p = seq L.ops := L.eq
    have hM : k = seq M.ops := M.eq
    unfold IsSeq; rw [h, ← hL, ← hM], by
    intro o ho
    rcases List.mem_append.1 ho with h | h
    · exact L.plain o h
    · exact M.plain o h⟩

end Line

/-! The private functions of the reference. -/

def clipL (a b) (φ : fn_clip.Bufs) : Line (F := F) (fn_clip.body a b φ) := by
  repeat (first | apply Line.cons | exact Line.nil)
def whereL (a b c) (φ : fn_where.Bufs) : Line (F := F) (fn_where.body a b c φ) := by
  repeat (first | apply Line.cons | exact Line.nil)
def clip0L (a b c) (φ : fn_clip_0.Bufs) : Line (F := F) (fn_clip_0.body a b c φ) := by
  repeat (first | apply Line.cons | exact Line.nil)
def where1L (a b c) (φ : fn_where_1.Bufs) : Line (F := F) (fn_where_1.body a b c φ) := by
  repeat (first | apply Line.cons | exact Line.nil)
def where2L (a b c) (φ : fn_where_2.Bufs) : Line (F := F) (fn_where_2.body a b c φ) := by
  repeat (first | apply Line.cons | exact Line.nil)
def clip3L (a b c) (φ : fn_clip_3.Bufs) : Line (F := F) (fn_clip_3.body a b c φ) := by
  repeat (first | apply Line.cons | exact Line.nil)
def where4L (a b c) (φ : fn_where_4.Bufs) : Line (F := F) (fn_where_4.body a b c φ) := by
  repeat (first | apply Line.cons | exact Line.nil)
def argmaxL (a) (φ : fn_argmax.Bufs) : Line (F := F) (fn_argmax.body a φ) := by
  repeat (first | apply Line.cons | exact Line.nil)

set_option maxRecDepth 8192
set_option maxHeartbeats 4000000

def line0 (c : Dev nD) : Line (F := F) (main_part0 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line1 (c : Dev nD) : Line (F := F) (main_part1 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line2 (c : Dev nD) : Line (F := F) (main_part2 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line3 (c : Dev nD) : Line (F := F) (main_part3 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line4 (c : Dev nD) : Line (F := F) (main_part4 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line5 (c : Dev nD) : Line (F := F) (main_part5 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line6 (c : Dev nD) : Line (F := F) (main_part6 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

def line7 (c : Dev nD) : Line (F := F) (main_part7 c) := by
  apply Line.cons
  repeat first
    | with_reducible apply Line.cons
    | with_reducible apply Line.last
    | with_reducible exact Line.nil
    | with_reducible first
        | exact clipL .. | exact whereL .. | exact clip0L .. | exact where1L .. | exact where2L .. | exact clip3L ..
        | exact argmaxL .. | exact where4L ..
    | apply Line.call

/-- The whole reference. -/
def mainL (c : Dev nD) : Line (F := F) (main c) :=
  .call (line0 c) (.call (line1 c) (.call (line2 c) (.call (line3 c) (.call (line4 c) (.call (line5 c)
    (.call (line6 c) (line7 c)))))))

/-- The buffers after the reference. -/
def final (c : Dev nD) (V : Valuation τ sig (Elt F)) : Valuation τ sig (Elt F) :=
  after (line7 c).ops (after (line6 c).ops (after (line5 c).ops (after (line4 c).ops (after (line3 c).ops
    (after (line2 c).ops (after (line1 c).ops (after (line0 c).ops V)))))))

theorem after_both (l k : List (HloOp τ sig (Elt F))) (V : Valuation τ sig (Elt F)) : after (l ++ k) V = after k (after l V) := by
  induction l generalizing V with
  | nil => rfl
  | cons a l ih => simp only [List.cons_append, after_cons, ih]

theorem after_main (c : Dev nD) (V : Valuation τ sig (Elt F)) : after (mainL c).ops V = final c V := by
  show after ((line0 c).ops ++ ((line1 c).ops ++ ((line2 c).ops ++ ((line3 c).ops ++ ((line4 c).ops ++ ((line5 c).ops
    ++ ((line6 c).ops ++ (line7 c).ops))))))) V = _
  simp only [after_both, final]

theorem noRefs : (Finset.univ.filter fun b : Ref sig .tc => b.isScoped) = ∅ := by decide
theorem noSems : (Finset.univ.filter fun sm : SemLoc sig => sm.isScoped .tc) = ∅ := by decide

/-- Every fair execution of the reference ends with every buffer at its final contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = final d (launchContents m d) (Proc.devRef .tc b) :=
  (θ_run defs _ _).mono (fun _ h d b => (h d b).trans (congrFun (after_main d (launchContents m d)) _))
    (run_seq noRefs noSems defs main (fun d => (mainL d).ops) (fun d => (mainL d).eq)
      (fun d => List.forall_iff_forall_mem.2 fun o ho => ((mainL d).plain o ho).sub) m ρ
      fun d o ho => ((mainL d).plain o ho).fresh)

end Cert.Proof.Ref

end
-- ==== Proof.RefVal.lean ====
module

public import proofs.«01_k».proof.Proof.Line

@[expose] public section

noncomputable section

/-! The reference's values, named by what they are. -/

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- A tensor of shape `s` and element type `e`. -/
abbrev T (F : FTy → Type) [FloatOps F] (s : Shape) (e : EltTy) := (⟨s, e⟩ : BufTy).Contents (Elt F)

/-- The last ground-truth point of each sample. -/
def tgt (g : T F S16x30x2 .f32) : T F S16x2 .f32 :=
  shapeCast _ (extractStridedSlice S16x1x2 ![0, 29, 0] g slices_S16x30x2_S16x1x2_0_29_0) shapeCasts_S16x1x2_S16x2

/-- Every point's offset from the sample's point `p`. -/
def offs (x : T F S16x20000x2 .f32) (p : T F S16x2 .f32) : T F S16x20000x2 .f32 :=
  subf x (broadcastInDim S16x20000x2 ![0, 1, 2] bcast_S16x1x2_S16x20000x2_0_1_2
    (broadcastInDim S16x1x2 ![0, 2] bcast_S16x2_S16x1x2_0_2 p))

/-- The guarded squared distance. -/
def sqd (x : T F S16x20000x2 .f32) (p : T F S16x2 .f32) : T F S16x20000 .f32 :=
  addf (Host.reduceAdd (mulf (offs x p) (offs x p)) (constant S_ .f32 0x00000000#32) reducesTo_S16x20000x2_S16x20000_d2 h_S_)
    (broadcastInDim S16x20000 ![] bcast_S_S16x20000 (constant S_ .f32 0x2B8CBCCC#32))

def splat (w : BitVec 32) : T F S16x20000 .f32 := broadcastInDim S16x20000 ![] bcast_S_S16x20000 (constant S_ .f32 w)
def splat10 (w : BitVec 32) : T F S16x10 .f32 := broadcastInDim S16x10 ![] bcast_S_S16x10 (constant S_ .f32 w)
def rowsplat (w : BitVec 32) : T F S16x20000 .f32 :=
  broadcastInDim S16x20000 ![1] bcast_S20000_S16x20000_1 (broadcastInDim S20000 ![] bcast_S_S20000 (constant S_ .f32 w))

/-- The centerness target of every point. -/
def centGt (x : T F S16x20000x2 .f32) (p : T F S16x2 .f32) : T F S16x20000 .f32 :=
  select (cmpf .oge (Host.sqrt (sqd x p)) (splat 0x40000000#32)) (rowsplat 0x00000000#32)
    (subf (splat 0x3F800000#32) (Host.sqrt (Host.divf (maximumf (splat 0x00000000#32) (Host.sqrt (sqd x p))) (splat 0x40000000#32))))

/-- The places of the ten highest scores. -/
def top (s : T F S16x20000 .f32) : T F S16x10 .i32 :=
  (Host.topK S16x10 1 (FloatOps.cmpfTotal .gt) s sliceFits_S16x20000_S16x10).2

def neg10 (i : T F S16x10 .i32) : T F S16x10 .i1 := cmpi .slt i (broadcastInDim S16x10 ![] bcast_S_S16x10 (constantI S_ 32 0#32))
def len10 : T F S16x10 .i32 := broadcastInDim S16x10 ![] bcast_S_S16x10 (constantI S_ 32 20000#32)

/-- Ten indices a sample, negative ones counted from the end, as start indices. -/
def wrap10 (i : T F S16x10 .i32) : T F S16x10x1 .i32 :=
  broadcastInDim S16x10x1 ![0, 1] bcast_S16x10_S16x10x1_0_1 (select (neg10 (F := F) i) (addi i (len10 (F := F))) i)

def at10 (s : T F S16x20000 .f32) (i : T F S16x10 .i32) : T F S16x10 .f32 :=
  Host.gather gather_S16x20000_S16x10x1_S16x10_n_1_0_0_1_2_11 s (wrap10 (F := F) i)

def pts10 (x : T F S16x20000x2 .f32) (i : T F S16x10 .i32) : T F S16x10x2 .f32 :=
  Host.gather gather_S16x20000x2_S16x10x1_S16x10x2_2_1_0_0_1_2_112 x (wrap10 (F := F) i)

def clip10 (p : T F S16x10 .f32) : T F S16x10 .f32 :=
  minimumf (splat10 0x3F7FFFFE#32) (maximumf (splat10 0x33D6BF95#32) p)

def mean10 (p : T F S16x10 .f32) : T F S16 .f32 :=
  Host.divf (Host.reduceAdd p (constant S_ .f32 0x00000000#32) reducesTo_S16x10_S16_d1 h_S_)
    (broadcastInDim S16 ![] bcast_S_S16 (constant S_ .f32 0x41200000#32))

/-- The mean binary cross entropy of `p` against `t`. -/
def bce (p t : T F S16x10 .f32) : T F S16 .f32 :=
  mean10 (Host.negf (addf (mulf t (Host.log (clip10 p)))
    (mulf (subf (splat10 0x3F800000#32) t) (Host.log (subf (splat10 0x3F800000#32) (clip10 p))))))

def ones : T F S10 .f32 := broadcastInDim S10 ![] bcast_S_S10 (constant S_ .f32 0x3F800000#32)
def rows1 (v : T F S10 .f32) : T F S1x10 .f32 := broadcastInDim S1x10 ![1] bcast_S10_S1x10_1 v
def rows10 (v : T F S1x10 .f32) : T F S16x10 .f32 := broadcastInDim S16x10 ![0, 1] bcast_S1x10_S16x10_0_1 v

def onePos (p : T F S16x10 .f32) : T F S16x10 .f32 := mulf (rows10 (rows1 ones)) (Host.log (clip10 p))
def oneNeg (p : T F S16x10 .f32) : T F S16x10 .f32 := Host.log (subf (splat10 0x3F800000#32) (clip10 p))
def noOnes : T F S1x10 .f32 := rows1 (subf ones ones)

/-- The mean smooth absolute error of ten points against one. -/
def smooth (q : T F S16x10x2 .f32) (p : T F S16x2 .f32) : T F S16 .f32 :=
  let d := Host.absf (subf q (broadcastInDim S16x10x2 ![0, 2] bcast_S16x2_S16x10x2_0_2 p))
  let half := broadcastInDim S16x10x2 ![] bcast_S_S16x10x2 (constant S_ .f32 0x3F000000#32)
  Host.divf (Host.reduceAdd
      (select (cmpf .olt d (broadcastInDim S16x10x2 ![] bcast_S_S16x10x2 (constant S_ .f32 0x3F800000#32)))
        (mulf (mulf half d) d) (subf d half))
      (constant S_ .f32 0x00000000#32) reducesTo_S16x10x2_S16_d1_2 h_S_)
    (broadcastInDim S16 ![] bcast_S_S16 (constant S_ .f32 0x41A00000#32))

/-- One off the chosen places, nought on them. -/
def negMask (i : T F S16x10 .i32) : T F S16x20000 .f32 :=
  select (Host.reduce IntOp.ori
      (cmpi .eq (broadcastInDim S16x10x20000 ![0, 1, 2] bcast_S1x1x20000_S16x10x20000_0_1_2
          (broadcastInDim S1x1x20000 ![1, 2] bcast_S1x20000_S1x1x20000_1_2
            (broadcastInDim S1x20000 ![1] bcast_S20000_S1x20000_1 (iotaInDim S20000 32 0))))
        (broadcastInDim S16x10x20000 ![0, 1, 2] bcast_S16x10x1_S16x10x20000_0_1_2
          (broadcastInDim S16x10x1 ![0, 1] bcast_S16x10_S16x10x1_0_1 i)))
      (constantI S_ 1 0#1) reducesTo_S16x10x20000_S16x20000_d1 h_S_)
    (rowsplat 0x00000000#32) (rowsplat 0x3F800000#32)

def total (s : T F S16x20000 .f32) : T F S16 .f32 :=
  Host.reduceAdd s (constant S_ .f32 0x00000000#32) reducesTo_S16x20000_S16_d1 h_S_

/-- The loss of the places not chosen. -/
def negLoss (s : T F S16x20000 .f32) (i : T F S16x10 .i32) : T F S16 .f32 :=
  Host.divf (total (mulf (Host.negf (negMask i)) (Host.log (minimumf (splat 0x3F800000#32)
    (maximumf (splat 0x33D6BF95#32) (subf (splat 0x3F800000#32) s)))))) (total (negMask i))

/-- The first place of the highest score. -/
def arg (s : T F S16x20000 .f32) : T F S16 .i32 :=
  fun j => (Host.argReduce reducer_argmax_f32_i32 s (iotaInDim S16x20000 32 1) (constant S_ .f32 0xFF800000#32)
    (constantI S_ 32 0#32) reducesTo_S16x20000_S16_d1 h_S_ j).2

def col (i : T F S16 .i32) : T F S16x1 .i32 := broadcastInDim S16x1 ![0] bcast_S16_S16x1_0 i
def neg1 (i : T F S16x1 .i32) : T F S16x1 .i1 := cmpi .slt i (broadcastInDim S16x1 ![] bcast_S_S16x1 (constantI S_ 32 0#32))

/-- One index a sample, a negative one counted from the end, as start index. -/
def wrap1 (i : T F S16x1 .i32) : T F S16x1x1 .i32 :=
  broadcastInDim S16x1x1 ![0, 1] bcast_S16x1_S16x1x1_0_1
    (select (neg1 (F := F) i) (addi i (broadcastInDim S16x1 ![] bcast_S_S16x1 (constantI S_ 32 20000#32))) i)

def at1 (s : T F S16x20000 .f32) (i : T F S16 .i32) : T F S16 .f32 :=
  shapeCast _ (Host.gather gather_S16x20000_S16x1x1_S16x1_n_1_0_0_1_2_11 s (wrap1 (F := F) (col (F := F) i))) shapeCasts_S16x1_S16

def pt1 (x : T F S16x20000x2 .f32) (i : T F S16 .i32) : T F S16x2 .f32 :=
  shapeCast _ (Host.gather gather_S16x20000x2_S16x1x1_S16x1x2_2_1_0_0_1_2_112 x (wrap1 (F := F) (col (F := F) i))) shapeCasts_S16x1x2_S16x2

/-- The squared displacement of the chosen points from `p`. -/
def disp (q p : T F S16x2 .f32) : T F S16 .f32 :=
  addf (Host.reduceAdd (mulf (subf q p) (subf q p)) (constant S_ .f32 0x00000000#32) reducesTo_S16x2_S16_d1 h_S_)
    (broadcastInDim S16 ![] bcast_S_S16 (constant S_ .f32 0x2B8CBCCC#32))

/-- Suppression of every point whose guarded squared distance is `d`. -/
def supp (d s : T F S16x20000 .f32) : T F S16x20000 .f32 :=
  select (cmpf .olt (Host.sqrt d) (splat 0x40000000#32)) (rowsplat 0xFF800000#32) s

/-- One suppression step: every point near the best one drops out. -/
def nms (x : T F S16x20000x2 .f32) (s : T F S16x20000 .f32) : T F S16x20000 .f32 :=
  supp (sqd x (pt1 x (arg s))) s

def rowI (i : T F S16 .i32) : T F S1x16 .i32 := broadcastInDim S1x16 ![1] bcast_S16_S1x16_1 i
def rowF (i : T F S16 .f32) : T F S1x16 .f32 := broadcastInDim S1x16 ![1] bcast_S16_S1x16_1 i

def stackI (a b c d e f : T F S1x16 .i32) : T F S6x16 .i32 :=
  concatenate S6x16 0 [⟨S1x16, a⟩, ⟨S1x16, b⟩, ⟨S1x16, c⟩, ⟨S1x16, d⟩, ⟨S1x16, e⟩, ⟨S1x16, f⟩]
    concatenates_S1x16_S1x16_S1x16_S1x16_S1x16_S1x16_S6x16_d0
def stackF (a b c d e f : T F S1x16 .f32) : T F S6x16 .f32 :=
  concatenate S6x16 0 [⟨S1x16, a⟩, ⟨S1x16, b⟩, ⟨S1x16, c⟩, ⟨S1x16, d⟩, ⟨S1x16, e⟩, ⟨S1x16, f⟩]
    concatenates_S1x16_S1x16_S1x16_S1x16_S1x16_S1x16_S6x16_d0

/-- Six indices a sample, negative ones counted from the end, as start indices. -/
def wrap6 (k : T F S6x16 .i32) : T F S16x6x1 .i32 :=
  broadcastInDim S16x6x1 ![0, 1] bcast_S16x6_S16x6x1_0_1 (transpose S16x6 [1, 0]
    (select (cmpi .slt k (broadcastInDim S6x16 ![] bcast_S_S6x16 (constantI S_ 32 0#32)))
      (addi k (broadcastInDim S6x16 ![] bcast_S_S6x16 (constantI S_ 32 20000#32))) k : T F S6x16 .i32) transposes_S6x16_S16x6_1_0)

/-- The trajectories of the six kept candidates. -/
def trajs6 (t : T F S16x20000x30x2 .f32) (k : T F S6x16 .i32) : T F S16x6x30x2 .f32 :=
  Host.gather gather_S16x20000x30x2_S16x6x1_S16x6x30x2_23_1_0_0_1_2_11302 t (wrap6 (F := F) k)

/-- The trajectories of the ten highest scores. -/
def trajs10 (t : T F S16x20000x30x2 .f32) (i : T F S16x10 .i32) : T F S16x10x30x2 .f32 :=
  Host.gather gather_S16x20000x30x2_S16x10x1_S16x10x30x2_23_1_0_0_1_2_11302 t (wrap10 (F := F) i)

def splatT (w : BitVec 32) : T F S16x10x30x2 .f32 := broadcastInDim S16x10x30x2 ![] bcast_S_S16x10x30x2 (constant S_ .f32 w)

/-- How far each trajectory is from the sample's own. -/
def away (q : T F S16x10x30x2 .f32) (g : T F S16x30x2 .f32) : T F S16x10x30x2 .f32 :=
  Host.absf (subf q (broadcastInDim S16x10x30x2 ![0, 2, 3] bcast_S16x30x2_S16x10x30x2_0_2_3 g))

/-- The smooth absolute value of a distance. -/
def soft (d : T F S16x10x30x2 .f32) : T F S16x10x30x2 .f32 :=
  select (cmpf .olt d (splatT 0x3F800000#32)) (mulf (mulf (splatT 0x3F000000#32) d) d) (subf d (splatT 0x3F000000#32))

/-- The mean over a sample's ten trajectories. -/
def meanT (d : T F S16x10x30x2 .f32) : T F S16 .f32 :=
  Host.divf (Host.reduceAdd d (constant S_ .f32 0x00000000#32) reducesTo_S16x10x30x2_S16_d1_2_3 h_S_)
    (broadcastInDim S16 ![] bcast_S_S16 (constant S_ .f32 0x44160000#32))

/-- The mean over the samples. -/
def mean16 (l : T F S16 .f32) : T F S_ .f32 :=
  Host.divf (Host.reduceAdd l (constant S_ .f32 0x00000000#32) reducesTo_S16_S_d0 h_S_) (constant S_ .f32 0x41800000#32)

end Cert.Proof.Ref

end
-- ==== Proof.RefStage.lean ====
module

public import proofs.«01_k».proof.Proof.RefVal

@[expose] public section

noncomputable section

/-! Where each stretch of the reference's line leaves its values. -/

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The wrapped lookup with its comparison and length already at hand. -/
def gatherAt (s : T F S16x20000 .f32) (n : T F S16x10 .i1) (l i : T F S16x10 .i32) : T F S16x10 .f32 :=
  Host.gather gather_S16x20000_S16x10x1_S16x10_n_1_0_0_1_2_11 s
    (broadcastInDim S16x10x1 ![0, 1] bcast_S16x10_S16x10x1_0_1 (select n (addi i l) i))

/-- The lookup of a point with its comparison and sum already at hand. -/
def ptSel (x : T F S16x20000x2 .f32) (n : T F S16x1 .i1) (a i : T F S16x1 .i32) : T F S16x2 .f32 :=
  shapeCast _ (Host.gather gather_S16x20000x2_S16x1x1_S16x1x2_2_1_0_0_1_2_112 x
    (broadcastInDim S16x1x1 ![0, 1] bcast_S16x1_S16x1x1_0_1 (select n a i))) shapeCasts_S16x1x2_S16x2

/-- The lookup of a point from its wrapped column. -/
def ptCol (x : T F S16x20000x2 .f32) (i : T F S16x1 .i32) : T F S16x2 .f32 :=
  shapeCast _ (Host.gather gather_S16x20000x2_S16x1x1_S16x1x2_2_1_0_0_1_2_112 x (wrap1 (F := F) i)) shapeCasts_S16x1x2_S16x2

/-- The lookup of a score with its column and its nought already at hand. -/
def atCol (s : T F S16x20000 .f32) (i z : T F S16x1 .i32) : T F S16 .f32 :=
  shapeCast _ (Host.gather gather_S16x20000_S16x1x1_S16x1_n_1_0_0_1_2_11 s
    (broadcastInDim S16x1x1 ![0, 1] bcast_S16x1_S16x1x1_0_1
      (select (cmpi .slt i z) (addi i (broadcastInDim S16x1 ![] bcast_S_S16x1 (constantI S_ 32 20000#32))) i))) shapeCasts_S16x1_S16

/-- Suppression of every point whose distance is below `t`. -/
def under (d t s : T F S16x20000 .f32) : T F S16x20000 .f32 := select (cmpf .olt d t) (rowsplat 0xFF800000#32) s

def nought1 : T F S16x1 .i32 := broadcastInDim S16x1 ![] bcast_S_S16x1 (constantI S_ 32 0#32)
def len1 : T F S16x1 .i32 := broadcastInDim S16x1 ![] bcast_S_S16x1 (constantI S_ 32 20000#32)

/-- Equal rows make equal stacks. -/
theorem stack_list {α : Type} {a b c d e f a' b' c' d' e' f' : S1x16.Idx → α} (ha : a = a') (hb : b = b') (hc : c = c') (hd : d = d')
    (he : e = e') (hf : f = f') :
    ([⟨S1x16, a⟩, ⟨S1x16, b⟩, ⟨S1x16, c⟩, ⟨S1x16, d⟩, ⟨S1x16, e⟩, ⟨S1x16, f⟩] : List ((s : Shape) × (s.Idx → α)))
      = [⟨S1x16, a'⟩, ⟨S1x16, b'⟩, ⟨S1x16, c'⟩, ⟨S1x16, d'⟩, ⟨S1x16, e'⟩, ⟨S1x16, f'⟩] := by
  subst ha hb hc hd he hf; rfl

set_option maxRecDepth 65536
set_option maxHeartbeats 4000000

section
variable (c : Dev nD) (V : Valuation τ sig (Elt F))

theorem line0_at :
    after (line0 c).ops V (Proc.devRef .tc main_v1) = tgt (V (Proc.devRef .tc main_arg4))
    ∧ after (line0 c).ops V (Proc.devRef .tc main_v18) = centGt (V (Proc.devRef .tc main_arg0)) (tgt (V (Proc.devRef .tc main_arg4)))
    ∧ after (line0 c).ops V (Proc.devRef .tc main_indices) = top (V (Proc.devRef .tc main_arg1))
    ∧ after (line0 c).ops V (Proc.devRef .tc main_v25) = pts10 (V (Proc.devRef .tc main_arg0)) (top (V (Proc.devRef .tc main_arg1)))
    ∧ after (line0 c).ops V (Proc.devRef .tc main_v32) = at10 (V (Proc.devRef .tc main_arg1)) (top (V (Proc.devRef .tc main_arg1)))
    ∧ after (line0 c).ops V (Proc.devRef .tc main_v39) = at10 (V (Proc.devRef .tc main_arg3)) (top (V (Proc.devRef .tc main_arg1)))
    ∧ after (line0 c).ops V (Proc.devRef .tc main_v41) = neg10 (top (V (Proc.devRef .tc main_arg1)))
    ∧ after (line0 c).ops V (Proc.devRef .tc main_v42) = len10
    ∧ after (line0 c).ops V (Proc.devRef .tc main_arg0) = (V (Proc.devRef .tc main_arg0))
    ∧ after (line0 c).ops V (Proc.devRef .tc main_arg1) = (V (Proc.devRef .tc main_arg1))
    ∧ after (line0 c).ops V (Proc.devRef .tc main_arg2) = (V (Proc.devRef .tc main_arg2))
    ∧ after (line0 c).ops V (Proc.devRef .tc main_arg3) = (V (Proc.devRef .tc main_arg3))
    ∧ after (line0 c).ops V (Proc.devRef .tc main_arg4) = (V (Proc.devRef .tc main_arg4)) := by
  refine ⟨?_, ?_, ?_, ?_, ?_, ?_, ?_, ?_, ?_, ?_, ?_, ?_, ?_⟩ <;>
  · simp only [line0, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line1_at :
    after (line1 c).ops V (Proc.devRef .tc main_v60) = bce (V (Proc.devRef .tc main_v39)) (gatherAt (V (Proc.devRef .tc main_v18)) (V (Proc.devRef .tc main_v41)) (V (Proc.devRef .tc main_v42)) (V (Proc.devRef .tc main_indices)))
    ∧ after (line1 c).ops V (Proc.devRef .tc main_v74) = smooth (V (Proc.devRef .tc main_v25)) (V (Proc.devRef .tc main_v1))
    ∧ after (line1 c).ops V (Proc.devRef .tc main_v80) = onePos (V (Proc.devRef .tc main_v32))
    ∧ after (line1 c).ops V (Proc.devRef .tc main_v85) = oneNeg (V (Proc.devRef .tc main_v32))
    ∧ after (line1 c).ops V (Proc.devRef .tc main_v86) = noOnes
    ∧ after (line1 c).ops V (Proc.devRef .tc main_v1) = (V (Proc.devRef .tc main_v1))
    ∧ after (line1 c).ops V (Proc.devRef .tc main_indices) = (V (Proc.devRef .tc main_indices))
    ∧ after (line1 c).ops V (Proc.devRef .tc main_arg0) = (V (Proc.devRef .tc main_arg0))
    ∧ after (line1 c).ops V (Proc.devRef .tc main_arg1) = (V (Proc.devRef .tc main_arg1))
    ∧ after (line1 c).ops V (Proc.devRef .tc main_arg2) = (V (Proc.devRef .tc main_arg2))
    ∧ after (line1 c).ops V (Proc.devRef .tc main_arg3) = (V (Proc.devRef .tc main_arg3))
    ∧ after (line1 c).ops V (Proc.devRef .tc main_arg4) = (V (Proc.devRef .tc main_arg4)) := by
  refine ⟨?_, ?_, ?_, ?_, ?_, ?_, ?_, ?_, ?_, ?_, ?_, ?_⟩ <;>
  · simp only [line1, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line2_at :
    after (line2 c).ops V (Proc.devRef .tc main_v93) = mean10 (Host.negf (addf (V (Proc.devRef .tc main_v80)) (mulf (rows10 (V (Proc.devRef .tc main_v86))) (V (Proc.devRef .tc main_v85)))))
    ∧ after (line2 c).ops V (Proc.devRef .tc main_v113) = negLoss (V (Proc.devRef .tc main_arg1)) (V (Proc.devRef .tc main_indices))
    ∧ after (line2 c).ops V (Proc.devRef .tc main_v114) = mulf (V (Proc.devRef .tc main_arg1)) (V (Proc.devRef .tc main_arg3))
    ∧ after (line2 c).ops V (Proc.devRef .tc main_v130) = Host.sqrt (disp (pt1 (V (Proc.devRef .tc main_arg0)) (arg (mulf (V (Proc.devRef .tc main_arg1)) (V (Proc.devRef .tc main_arg3))))) (V (Proc.devRef .tc main_v1)))
    ∧ after (line2 c).ops V (Proc.devRef .tc main_v131) = arg (mulf (V (Proc.devRef .tc main_arg1)) (V (Proc.devRef .tc main_arg3)))
    ∧ after (line2 c).ops V (Proc.devRef .tc main_v132) = col (arg (mulf (V (Proc.devRef .tc main_arg1)) (V (Proc.devRef .tc main_arg3))))
    ∧ after (line2 c).ops V (Proc.devRef .tc main_indices) = (V (Proc.devRef .tc main_indices))
    ∧ after (line2 c).ops V (Proc.devRef .tc main_v60) = (V (Proc.devRef .tc main_v60))
    ∧ after (line2 c).ops V (Proc.devRef .tc main_v74) = (V (Proc.devRef .tc main_v74))
    ∧ after (line2 c).ops V (Proc.devRef .tc main_arg0) = (V (Proc.devRef .tc main_arg0))
    ∧ after (line2 c).ops V (Proc.devRef .tc main_arg1) = (V (Proc.devRef .tc main_arg1))
    ∧ after (line2 c).ops V (Proc.devRef .tc main_arg2) = (V (Proc.devRef .tc main_arg2))
    ∧ after (line2 c).ops V (Proc.devRef .tc main_arg3) = (V (Proc.devRef .tc main_arg3))
    ∧ after (line2 c).ops V (Proc.devRef .tc main_arg4) = (V (Proc.devRef .tc main_arg4)) := by
  refine ⟨?_, ?_, ?_, ?_, ?_, ?_, ?_, ?_, ?_, ?_, ?_, ?_, ?_, ?_⟩ <;>
  · simp only [line2, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try simp -implicitDefEqProofs only [id]
    try rfl

theorem line3_at :
    after (line3 c).ops V (Proc.devRef .tc main_v151) = supp (sqd (V (Proc.devRef .tc main_arg0)) (ptCol (V (Proc.devRef .tc main_arg0)) (V (Proc.devRef .tc main_v132)))) (V (Proc.devRef .tc main_v114))
    ∧ after (line3 c).ops V (Proc.devRef .tc main_v160) = at1 (V (Proc.devRef .tc main_v114)) (V (Proc.devRef .tc main_v131))
    ∧ after (line3 c).ops V (Proc.devRef .tc main_v161) = arg (supp (sqd (V (Proc.devRef .tc main_arg0)) (ptCol (V (Proc.devRef .tc main_arg0)) (V (Proc.devRef .tc main_v132)))) (V (Proc.devRef .tc main_v114)))
    ∧ after (line3 c).ops V (Proc.devRef .tc main_v178) = Host.sqrt (sqd (V (Proc.devRef .tc main_arg0)) (pt1 (V (Proc.devRef .tc main_arg0)) (arg (supp (sqd (V (Proc.devRef .tc main_arg0)) (ptCol (V (Proc.devRef .tc main_arg0)) (V (Proc.devRef .tc main_v132)))) (V (Proc.devRef .tc main_v114))))))
    ∧ after (line3 c).ops V (Proc.devRef .tc main_v179) = splat 0x40000000#32
    ∧ after (line3 c).ops V (Proc.devRef .tc main_indices) = (V (Proc.devRef .tc main_indices))
    ∧ after (line3 c).ops V (Proc.devRef .tc main_v60) = (V (Proc.devRef .tc main_v60))
    ∧ after (line3 c).ops V (Proc.devRef .tc main_v74) = (V (Proc.devRef .tc main_v74))
    ∧ after (line3 c).ops V (Proc.devRef .tc main_v93) = (V (Proc.devRef .tc main_v93))
    ∧ after (line3 c).ops V (Proc.devRef .tc main_v113) = (V (Proc.devRef .tc main_v113))
    ∧ after (line3 c).ops V (Proc.devRef .tc main_v114) = (V (Proc.devRef .tc main_v114))
    ∧ after (line3 c).ops V (Proc.devRef .tc main_v130) = (V (Proc.devRef .tc main_v130))
    ∧ after (line3 c).ops V (Proc.devRef .tc main_v131) = (V (Proc.devRef .tc main_v131))
    ∧ after (line3 c).ops V (Proc.devRef .tc main_arg0) = (V (Proc.devRef .tc main_arg0))
    ∧ after (line3 c).ops V (Proc.devRef .tc main_arg1) = (V (Proc.devRef .tc main_arg1))
    ∧ after (line3 c).ops V (Proc.devRef .tc main_arg2) = (V (Proc.devRef .tc main_arg2))
    ∧ after (line3 c).ops V (Proc.devRef .tc main_arg3) = (V (Proc.devRef .tc main_arg3))
    ∧ after (line3 c).ops V (Proc.devRef .tc main_arg4) = (V (Proc.devRef .tc main_arg4)) := by
  refine ⟨?_, ?_, ?_, ?_, ?_, ?_, ?_, ?_, ?_, ?_, ?_, ?_, ?_, ?_, ?_, ?_, ?_, ?_⟩ <;>
  · simp only [line3, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line4_at :
    after (line4 c).ops V (Proc.devRef .tc main_v190) = at1 (V (Proc.devRef .tc main_v114)) (V (Proc.devRef .tc main_v161))
    ∧ after (line4 c).ops V (Proc.devRef .tc main_v191) = arg (under (V (Proc.devRef .tc main_v178)) (V (Proc.devRef .tc main_v179)) (V (Proc.devRef .tc main_v151)))
    ∧ after (line4 c).ops V (Proc.devRef .tc main_v211) = nms (V (Proc.devRef .tc main_arg0)) (under (V (Proc.devRef .tc main_v178)) (V (Proc.devRef .tc main_v179)) (V (Proc.devRef .tc main_v151)))
    ∧ after (line4 c).ops V (Proc.devRef .tc main_v220) = at1 (V (Proc.devRef .tc main_v114)) (arg (under (V (Proc.devRef .tc main_v178)) (V (Proc.devRef .tc main_v179)) (V (Proc.devRef .tc main_v151))))
    ∧ after (line4 c).ops V (Proc.devRef .tc main_v221) = arg (nms (V (Proc.devRef .tc main_arg0)) (under (V (Proc.devRef .tc main_v178)) (V (Proc.devRef .tc main_v179)) (V (Proc.devRef .tc main_v151))))
    ∧ after (line4 c).ops V (Proc.devRef .tc main_v222) = col (arg (nms (V (Proc.devRef .tc main_arg0)) (under (V (Proc.devRef .tc main_v178)) (V (Proc.devRef .tc main_v179)) (V (Proc.devRef .tc main_v151)))))
    ∧ after (line4 c).ops V (Proc.devRef .tc main_v224) = neg1 (col (arg (nms (V (Proc.devRef .tc main_arg0)) (under (V (Proc.devRef .tc main_v178)) (V (Proc.devRef .tc main_v179)) (V (Proc.devRef .tc main_v151))))))
    ∧ after (line4 c).ops V (Proc.devRef .tc main_v226) = addi (col (arg (nms (V (Proc.devRef .tc main_arg0)) (under (V (Proc.devRef .tc main_v178)) (V (Proc.devRef .tc main_v179)) (V (Proc.devRef .tc main_v151)))))) (len1 (F := F))
    ∧ after (line4 c).ops V (Proc.devRef .tc main_indices) = (V (Proc.devRef .tc main_indices))
    ∧ after (line4 c).ops V (Proc.devRef .tc main_v60) = (V (Proc.devRef .tc main_v60))
    ∧ after (line4 c).ops V (Proc.devRef .tc main_v74) = (V (Proc.devRef .tc main_v74))
    ∧ after (line4 c).ops V (Proc.devRef .tc main_v93) = (V (Proc.devRef .tc main_v93))
    ∧ after (line4 c).ops V (Proc.devRef .tc main_v113) = (V (Proc.devRef .tc main_v113))
    ∧ after (line4 c).ops V (Proc.devRef .tc main_v114) = (V (Proc.devRef .tc main_v114))
    ∧ after (line4 c).ops V (Proc.devRef .tc main_v130) = (V (Proc.devRef .tc main_v130))
    ∧ after (line4 c).ops V (Proc.devRef .tc main_v131) = (V (Proc.devRef .tc main_v131))
    ∧ after (line4 c).ops V (Proc.devRef .tc main_v160) = (V (Proc.devRef .tc main_v160))
    ∧ after (line4 c).ops V (Proc.devRef .tc main_v161) = (V (Proc.devRef .tc main_v161))
    ∧ after (line4 c).ops V (Proc.devRef .tc main_arg0) = (V (Proc.devRef .tc main_arg0))
    ∧ after (line4 c).ops V (Proc.devRef .tc main_arg1) = (V (Proc.devRef .tc main_arg1))
    ∧ after (line4 c).ops V (Proc.devRef .tc main_arg2) = (V (Proc.devRef .tc main_arg2))
    ∧ after (line4 c).ops V (Proc.devRef .tc main_arg3) = (V (Proc.devRef .tc main_arg3))
    ∧ after (line4 c).ops V (Proc.devRef .tc main_arg4) = (V (Proc.devRef .tc main_arg4)) := by
  refine ⟨?_, ?_, ?_, ?_, ?_, ?_, ?_, ?_, ?_, ?_, ?_, ?_, ?_, ?_, ?_, ?_, ?_, ?_, ?_, ?_, ?_, ?_, ?_⟩ <;>
  · simp only [line4, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line5_at :
    after (line5 c).ops V (Proc.devRef .tc main_v250) = at1 (V (Proc.devRef .tc main_v114)) (V (Proc.devRef .tc main_v221))
    ∧ after (line5 c).ops V (Proc.devRef .tc main_v251) = arg (supp (sqd (V (Proc.devRef .tc main_arg0)) (ptSel (V (Proc.devRef .tc main_arg0)) (V (Proc.devRef .tc main_v224)) (V (Proc.devRef .tc main_v226)) (V (Proc.devRef .tc main_v222)))) (V (Proc.devRef .tc main_v211)))
    ∧ after (line5 c).ops V (Proc.devRef .tc main_v271) = nms (V (Proc.devRef .tc main_arg0)) (supp (sqd (V (Proc.devRef .tc main_arg0)) (ptSel (V (Proc.devRef .tc main_arg0)) (V (Proc.devRef .tc main_v224)) (V (Proc.devRef .tc main_v226)) (V (Proc.devRef .tc main_v222)))) (V (Proc.devRef .tc main_v211)))
    ∧ after (line5 c).ops V (Proc.devRef .tc main_v272) = col (arg (supp (sqd (V (Proc.devRef .tc main_arg0)) (ptSel (V (Proc.devRef .tc main_arg0)) (V (Proc.devRef .tc main_v224)) (V (Proc.devRef .tc main_v226)) (V (Proc.devRef .tc main_v222)))) (V (Proc.devRef .tc main_v211))))
    ∧ after (line5 c).ops V (Proc.devRef .tc main_v273) = nought1 (F := F)
    ∧ after (line5 c).ops V (Proc.devRef .tc main_indices) = (V (Proc.devRef .tc main_indices))
    ∧ after (line5 c).ops V (Proc.devRef .tc main_v60) = (V (Proc.devRef .tc main_v60))
    ∧ after (line5 c).ops V (Proc.devRef .tc main_v74) = (V (Proc.devRef .tc main_v74))
    ∧ after (line5 c).ops V (Proc.devRef .tc main_v93) = (V (Proc.devRef .tc main_v93))
    ∧ after (line5 c).ops V (Proc.devRef .tc main_v113) = (V (Proc.devRef .tc main_v113))
    ∧ after (line5 c).ops V (Proc.devRef .tc main_v114) = (V (Proc.devRef .tc main_v114))
    ∧ after (line5 c).ops V (Proc.devRef .tc main_v130) = (V (Proc.devRef .tc main_v130))
    ∧ after (line5 c).ops V (Proc.devRef .tc main_v131) = (V (Proc.devRef .tc main_v131))
    ∧ after (line5 c).ops V (Proc.devRef .tc main_v160) = (V (Proc.devRef .tc main_v160))
    ∧ after (line5 c).ops V (Proc.devRef .tc main_v161) = (V (Proc.devRef .tc main_v161))
    ∧ after (line5 c).ops V (Proc.devRef .tc main_v190) = (V (Proc.devRef .tc main_v190))
    ∧ after (line5 c).ops V (Proc.devRef .tc main_v191) = (V (Proc.devRef .tc main_v191))
    ∧ after (line5 c).ops V (Proc.devRef .tc main_v220) = (V (Proc.devRef .tc main_v220))
    ∧ after (line5 c).ops V (Proc.devRef .tc main_v221) = (V (Proc.devRef .tc main_v221))
    ∧ after (line5 c).ops V (Proc.devRef .tc main_arg0) = (V (Proc.devRef .tc main_arg0))
    ∧ after (line5 c).ops V (Proc.devRef .tc main_arg1) = (V (Proc.devRef .tc main_arg1))
    ∧ after (line5 c).ops V (Proc.devRef .tc main_arg2) = (V (Proc.devRef .tc main_arg2))
    ∧ after (line5 c).ops V (Proc.devRef .tc main_arg3) = (V (Proc.devRef .tc main_arg3))
    ∧ after (line5 c).ops V (Proc.devRef .tc main_arg4) = (V (Proc.devRef .tc main_arg4)) := by
  refine ⟨?_, ?_, ?_, ?_, ?_, ?_, ?_, ?_, ?_, ?_, ?_, ?_, ?_, ?_, ?_, ?_, ?_, ?_, ?_, ?_, ?_, ?_, ?_, ?_⟩ <;>
  · simp only [line5, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line6_at :
    after (line6 c).ops V (Proc.devRef .tc main_v317) = stackI (rowI (V (Proc.devRef .tc main_v131))) (rowI (V (Proc.devRef .tc main_v161))) (rowI (V (Proc.devRef .tc main_v191))) (rowI (V (Proc.devRef .tc main_v221))) (rowI (V (Proc.devRef .tc main_v251))) (rowI (arg (V (Proc.devRef .tc main_v271))))
    ∧ after (line6 c).ops V (Proc.devRef .tc main_v324) = stackF (rowF (V (Proc.devRef .tc main_v160))) (rowF (V (Proc.devRef .tc main_v190))) (rowF (V (Proc.devRef .tc main_v220))) (rowF (V (Proc.devRef .tc main_v250))) (rowF (atCol (V (Proc.devRef .tc main_v114)) (V (Proc.devRef .tc main_v272)) (V (Proc.devRef .tc main_v273)))) (rowF (at1 (V (Proc.devRef .tc main_v114)) (arg (V (Proc.devRef .tc main_v271)))))
    ∧ after (line6 c).ops V (Proc.devRef .tc main_indices) = (V (Proc.devRef .tc main_indices))
    ∧ after (line6 c).ops V (Proc.devRef .tc main_v60) = (V (Proc.devRef .tc main_v60))
    ∧ after (line6 c).ops V (Proc.devRef .tc main_v74) = (V (Proc.devRef .tc main_v74))
    ∧ after (line6 c).ops V (Proc.devRef .tc main_v93) = (V (Proc.devRef .tc main_v93))
    ∧ after (line6 c).ops V (Proc.devRef .tc main_v113) = (V (Proc.devRef .tc main_v113))
    ∧ after (line6 c).ops V (Proc.devRef .tc main_v130) = (V (Proc.devRef .tc main_v130))
    ∧ after (line6 c).ops V (Proc.devRef .tc main_arg0) = (V (Proc.devRef .tc main_arg0))
    ∧ after (line6 c).ops V (Proc.devRef .tc main_arg1) = (V (Proc.devRef .tc main_arg1))
    ∧ after (line6 c).ops V (Proc.devRef .tc main_arg2) = (V (Proc.devRef .tc main_arg2))
    ∧ after (line6 c).ops V (Proc.devRef .tc main_arg3) = (V (Proc.devRef .tc main_arg3))
    ∧ after (line6 c).ops V (Proc.devRef .tc main_arg4) = (V (Proc.devRef .tc main_arg4)) := by
  refine ⟨?_, ?_, ?_, ?_, ?_, ?_, ?_, ?_, ?_, ?_, ?_, ?_, ?_⟩
  case refine_1 =>
    simp only [line6, clipL, whereL, clip0L, where1L, where2L, clip3L, argmaxL, where4L, Line.cons, Line.last, Line.call, Line.nil,
      List.cons_append, List.nil_append]
    after_results_simp
    refine concatenate_congr _ _ (stack_list ?_ ?_ ?_ ?_ ?_ ?_) _ _ <;>
    · dsimp only [Matrix.cons_val]
      after_results_simp
      rfl
  case refine_2 =>
    simp only [line6, clipL, whereL, clip0L, where1L, where2L, clip3L, argmaxL, where4L, Line.cons, Line.last, Line.call, Line.nil,
      List.cons_append, List.nil_append]
    after_results_simp
    refine concatenate_congr _ _ (stack_list ?_ ?_ ?_ ?_ ?_ ?_) _ _ <;>
    · dsimp only [Matrix.cons_val]
      after_results_simp
      rfl
  all_goals
    simp only [line6, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

theorem line7_at :
    after (line7 c).ops V (Proc.devRef .tc main_v360) = mean16 (addf (addf (addf (addf (meanT (soft (away (trajs10 (V (Proc.devRef .tc main_arg2)) (V (Proc.devRef .tc main_indices))) (V (Proc.devRef .tc main_arg4))))) (V (Proc.devRef .tc main_v93))) (V (Proc.devRef .tc main_v113))) (V (Proc.devRef .tc main_v74))) (V (Proc.devRef .tc main_v60)))
    ∧ after (line7 c).ops V (Proc.devRef .tc main_v332) = trajs6 (V (Proc.devRef .tc main_arg2)) (V (Proc.devRef .tc main_v317))
    ∧ after (line7 c).ops V (Proc.devRef .tc main_v358) = transpose S16x6 [1, 0] (V (Proc.devRef .tc main_v324)) transposes_S6x16_S16x6_1_0
    ∧ after (line7 c).ops V (Proc.devRef .tc main_v130) = (V (Proc.devRef .tc main_v130))
    ∧ after (line7 c).ops V (Proc.devRef .tc main_arg0) = (V (Proc.devRef .tc main_arg0))
    ∧ after (line7 c).ops V (Proc.devRef .tc main_arg1) = (V (Proc.devRef .tc main_arg1))
    ∧ after (line7 c).ops V (Proc.devRef .tc main_arg2) = (V (Proc.devRef .tc main_arg2))
    ∧ after (line7 c).ops V (Proc.devRef .tc main_arg3) = (V (Proc.devRef .tc main_arg3))
    ∧ after (line7 c).ops V (Proc.devRef .tc main_arg4) = (V (Proc.devRef .tc main_arg4)) := by
  refine ⟨?_, ?_, ?_, ?_, ?_, ?_, ?_, ?_, ?_⟩ <;>
  · simp only [line7, clipL, whereL, clip0L, where1L, where2L, clip3L, argmaxL, where4L, Line.cons, Line.last, Line.call, Line.nil,
      List.cons_append, List.nil_append]
    after_results_simp
    try simp -implicitDefEqProofs only [TRef.toBuf, TRef.ofBuf, cast_cast, cast_eq]
    try rfl

end

end Cert.Proof.Ref

end
-- ==== Proof.RefFinal.lean ====
module

public import proofs.«01_k».proof.Proof.RefStage

@[expose] public section

noncomputable section

/-! The reference's results in its arguments. -/

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- The scores after `n` suppressions. -/
def left (x : T F S16x20000x2 .f32) (s : T F S16x20000 .f32) : Nat → T F S16x20000 .f32
  | 0 => s
  | n + 1 => nms x (left x s n)

def loss (x : T F S16x20000x2 .f32) (s z : T F S16x20000 .f32) (p : T F S16x2 .f32) : T F S16 .f32 :=
  addf (addf (addf
      (mean10 (Host.negf (addf (onePos (at10 s (top s))) (mulf (rows10 noOnes) (oneNeg (at10 s (top s)))))))
      (negLoss s (top s))) (smooth (pts10 x (top s)) p))
    (bce (at10 z (top s)) (at10 (centGt x p) (top s)))

/-- All losses of a sample, that of the trajectories first. -/
def lossAll (t : T F S16 .f32) (x : T F S16x20000x2 .f32) (s z : T F S16x20000 .f32) (p : T F S16x2 .f32) : T F S16 .f32 :=
  addf (addf (addf (addf t
      (mean10 (Host.negf (addf (onePos (at10 s (top s))) (mulf (rows10 noOnes) (oneNeg (at10 s (top s))))))))
      (negLoss s (top s))) (smooth (pts10 x (top s)) p))
    (bce (at10 z (top s)) (at10 (centGt x p) (top s)))

def kept (x : T F S16x20000x2 .f32) (s : T F S16x20000 .f32) : T F S6x16 .i32 :=
  stackI (rowI (arg (left x s 0))) (rowI (arg (left x s 1))) (rowI (arg (left x s 2))) (rowI (arg (left x s 3)))
    (rowI (arg (left x s 4))) (rowI (arg (left x s 5)))

def probs (x : T F S16x20000x2 .f32) (s : T F S16x20000 .f32) : T F S6x16 .f32 :=
  stackF (rowF (at1 s (arg (left x s 0)))) (rowF (at1 s (arg (left x s 1)))) (rowF (at1 s (arg (left x s 2))))
    (rowF (at1 s (arg (left x s 3)))) (rowF (at1 s (arg (left x s 4)))) (rowF (at1 s (arg (left x s 5))))

theorem gatherAt_eq (s : T F S16x20000 .f32) (i : T F S16x10 .i32) : gatherAt s (neg10 (F := F) i) (len10 (F := F)) i = at10 s i := rfl

theorem nms_def (x : T F S16x20000x2 .f32) (s : T F S16x20000 .f32) : supp (sqd x (pt1 x (arg s))) s = nms x s := rfl

section
variable (c : Dev nD) (V : Valuation τ sig (Elt F))

/-- What the reference leaves: its four results, and its arguments. -/
theorem final_at :
    final c V (Proc.devRef .tc main_v360) =
      mean16 (lossAll (meanT (soft (away (trajs10 (V (Proc.devRef .tc main_arg2)) (top (V (Proc.devRef .tc main_arg1))))
          (V (Proc.devRef .tc main_arg4)))))
        (V (Proc.devRef .tc main_arg0)) (V (Proc.devRef .tc main_arg1)) (V (Proc.devRef .tc main_arg3))
          (tgt (V (Proc.devRef .tc main_arg4))))
    ∧ final c V (Proc.devRef .tc main_v130) = Host.sqrt (disp (pt1 (V (Proc.devRef .tc main_arg0))
          (arg (mulf (V (Proc.devRef .tc main_arg1)) (V (Proc.devRef .tc main_arg3))))) (tgt (V (Proc.devRef .tc main_arg4))))
    ∧ final c V (Proc.devRef .tc main_v332) = trajs6 (V (Proc.devRef .tc main_arg2)) (kept (V (Proc.devRef .tc main_arg0))
        (mulf (V (Proc.devRef .tc main_arg1)) (V (Proc.devRef .tc main_arg3))))
    ∧ final c V (Proc.devRef .tc main_v358) = transpose S16x6 [1, 0] (probs (V (Proc.devRef .tc main_arg0))
        (mulf (V (Proc.devRef .tc main_arg1)) (V (Proc.devRef .tc main_arg3)))) transposes_S6x16_S16x6_1_0
    ∧ final c V (Proc.devRef .tc main_arg0) = V (Proc.devRef .tc main_arg0)
    ∧ final c V (Proc.devRef .tc main_arg1) = V (Proc.devRef .tc main_arg1)
    ∧ final c V (Proc.devRef .tc main_arg2) = V (Proc.devRef .tc main_arg2)
    ∧ final c V (Proc.devRef .tc main_arg3) = V (Proc.devRef .tc main_arg3)
    ∧ final c V (Proc.devRef .tc main_arg4) = V (Proc.devRef .tc main_arg4) := by
  unfold final
  obtain ⟨v1_0, v18_0, indices_0, v25_0, v32_0, v39_0, v41_0, v42_0, arg0_0, arg1_0, arg2_0, arg3_0, arg4_0⟩ := line0_at c V
  generalize after (line0 c).ops V = V1 at *
  obtain ⟨v60_1, v74_1, v80_1, v85_1, v86_1, v1_1, indices_1, arg0_1, arg1_1, arg2_1, arg3_1, arg4_1⟩ := line1_at c V1
  generalize after (line1 c).ops V1 = V2 at *
  obtain ⟨v93_2, v113_2, v114_2, v130_2, v131_2, v132_2, indices_2, v60_2, v74_2, arg0_2, arg1_2, arg2_2, arg3_2, arg4_2⟩ := line2_at c V2
  generalize after (line2 c).ops V2 = V3 at *
  obtain ⟨v151_3, v160_3, v161_3, v178_3, v179_3, indices_3, v60_3, v74_3, v93_3, v113_3, v114_3, v130_3, v131_3, arg0_3, arg1_3, arg2_3, arg3_3, arg4_3⟩ := line3_at c V3
  generalize after (line3 c).ops V3 = V4 at *
  obtain ⟨v190_4, v191_4, v211_4, v220_4, v221_4, v222_4, v224_4, v226_4, indices_4, v60_4, v74_4, v93_4, v113_4, v114_4, v130_4, v131_4, v160_4, v161_4, arg0_4, arg1_4, arg2_4, arg3_4, arg4_4⟩ := line4_at c V4
  generalize after (line4 c).ops V4 = V5 at *
  obtain ⟨v250_5, v251_5, v271_5, v272_5, v273_5, indices_5, v60_5, v74_5, v93_5, v113_5, v114_5, v130_5, v131_5, v160_5, v161_5, v190_5, v191_5, v220_5, v221_5, arg0_5, arg1_5, arg2_5, arg3_5, arg4_5⟩ := line5_at c V5
  generalize after (line5 c).ops V5 = V6 at *
  obtain ⟨v317_6, v324_6, indices_6, v60_6, v74_6, v93_6, v113_6, v130_6, arg0_6, arg1_6, arg2_6, arg3_6, arg4_6⟩ := line6_at c V6
  generalize after (line6 c).ops V6 = V7 at *
  obtain ⟨v360_7, v332_7, v358_7, v130_7, arg0_7, arg1_7, arg2_7, arg3_7, arg4_7⟩ := line7_at c V7
  generalize after (line7 c).ops V7 = V8 at *
  refine ⟨?_, ?_, ?_, ?_, ?_, ?_, ?_, ?_, ?_⟩
  · rw [v360_7]
    rw [arg2_6, indices_6, arg4_6, v93_6, v113_6, v74_6, v60_6]
    rw [arg2_5, indices_5, arg4_5, v93_5, v113_5, v74_5, v60_5]
    rw [arg2_4, indices_4, arg4_4, v93_4, v113_4, v74_4, v60_4]
    rw [arg2_3, indices_3, arg4_3, v93_3, v113_3, v74_3, v60_3]
    rw [arg2_2, indices_2, arg4_2, v93_2, v113_2, v74_2, v60_2]
    rw [arg2_1, indices_1, arg4_1, v80_1, v86_1, v85_1, arg1_1, v74_1, v60_1]
    simp only [v1_0, v18_0, indices_0, v25_0, v32_0, v39_0, v41_0, v42_0, arg0_0, arg1_0, arg2_0, arg3_0, arg4_0]
    try rfl
  · rw [v130_7]
    rw [v130_6]
    rw [v130_5]
    rw [v130_4]
    rw [v130_3]
    rw [v130_2]
    rw [arg0_1, arg1_1, arg3_1, v1_1]
    rw [arg0_0, arg1_0, arg3_0, v1_0]
    try rfl
  · rw [v332_7]
    rw [arg2_6, v317_6]
    rw [arg2_5, v131_5, v161_5, v191_5, v221_5, v251_5, v271_5]
    rw [arg2_4, v131_4, v161_4, v191_4, v221_4, arg0_4, v224_4, v226_4, v222_4, v211_4]
    rw [arg2_3, v131_3, v161_3, v178_3, v179_3, v151_3, arg0_3]
    rw [arg2_2, v131_2, arg0_2, v132_2, v114_2]
    rw [arg2_1, arg1_1, arg3_1, arg0_1]
    rw [arg2_0, arg1_0, arg3_0, arg0_0]
    try rfl
  · rw [v358_7]
    rw [v324_6]
    rw [v160_5, v190_5, v220_5, v250_5, v114_5, v272_5, v273_5, v271_5]
    rw [v160_4, v190_4, v220_4, v114_4, v221_4, arg0_4, v224_4, v226_4, v222_4, v211_4]
    rw [v160_3, v114_3, v161_3, v178_3, v179_3, v151_3, arg0_3]
    rw [v114_2, v131_2, arg0_2, v132_2]
    rw [arg1_1, arg3_1, arg0_1]
    rw [arg1_0, arg3_0, arg0_0]
    try rfl
  · rw [arg0_7, arg0_6, arg0_5, arg0_4, arg0_3, arg0_2, arg0_1, arg0_0]
  · rw [arg1_7, arg1_6, arg1_5, arg1_4, arg1_3, arg1_2, arg1_1, arg1_0]
  · rw [arg2_7, arg2_6, arg2_5, arg2_4, arg2_3, arg2_2, arg2_1, arg2_0]
  · rw [arg3_7, arg3_6, arg3_5, arg3_4, arg3_3, arg3_2, arg3_1, arg3_0]
  · rw [arg4_7, arg4_6, arg4_5, arg4_4, arg4_3, arg4_2, arg4_1, arg4_0]

end

end Cert.Proof.Ref

end
-- ==== Proof.Rows.lean ====
module

public import Mathlib.Data.EReal.Basic
public import Idealize.ShloMosaic.Lib.SortFacts
public import Idealize.ShloMosaic.PureOps.Ideal.Laws

@[expose] public section

noncomputable section

/-! The first place of a row's highest value, and the places of its highest values one after the other. -/

namespace Cert.Proof.Rows

open Idealize.ShloMosaic

variable {N : Nat} [NeZero N]

/-- `a` comes before `b` in the row: higher, or as high and earlier. -/
def Before (w : Fin N → EReal) (a b : Fin N) : Prop := w b < w a ∨ (w b = w a ∧ a < b)

theorem exists_best (w : Fin N → EReal) : ∃ j, ∀ k, w k < w j ∨ (w k = w j ∧ j ≤ k) := by
  obtain ⟨m, -, hm⟩ := Finset.exists_max_image Finset.univ w ⟨0, Finset.mem_univ _⟩
  obtain ⟨j, hj, hmin⟩ := Finset.exists_min_image (Finset.univ.filter fun j => w j = w m) id ⟨m, by simp⟩
  have hj' : w j = w m := by simpa using hj
  refine ⟨j, fun k => ?_⟩
  rcases lt_or_eq_of_le (hm k (Finset.mem_univ k)) with h | h
  · exact .inl (hj' ▸ h)
  · exact .inr ⟨h.trans hj'.symm, hmin k (by simpa using h)⟩

/-- The first place of the highest value. -/
def best (w : Fin N → EReal) : Fin N := Classical.choose (exists_best w)

theorem best_spec (w : Fin N → EReal) (k : Fin N) : w k < w (best w) ∨ (w k = w (best w) ∧ best w ≤ k) :=
  Classical.choose_spec (exists_best w) k

theorem le_best (w : Fin N → EReal) (k : Fin N) : w k ≤ w (best w) := by
  rcases best_spec w k with h | h
  · exact h.le
  · exact h.1.le

theorem best_eq (w : Fin N → EReal) (j : Fin N) (h : ∀ k, w k < w j ∨ (w k = w j ∧ j ≤ k)) : best w = j := by
  rcases h (best w) with h1 | h1 <;> rcases best_spec w j with h2 | h2
  · exact absurd h1 (not_lt.2 h2.le)
  · exact absurd h1 (by rw [h2.1]; exact lt_irrefl _)
  · exact absurd h2 (by rw [h1.1]; exact lt_irrefl _)
  · exact le_antisymm h2.2 h1.2

/-- The row with its best place struck out. -/
def hide (w : Fin N → EReal) : Fin N → EReal := fun j => if j = best w then ⊥ else w j

/-- The row with its `n` best places struck out. -/
def hid (w : Fin N → EReal) : Nat → Fin N → EReal
  | 0 => w
  | n + 1 => hide (hid w n)

/-- The place of the `n`-th highest value. -/
def nth (w : Fin N → EReal) (n : Nat) : Fin N := best (hid w n)

theorem hid_hide (w : Fin N → EReal) (n : Nat) : hid (hide w) n = hid w (n + 1) := by
  induction n with
  | zero => rfl
  | succ n ih => show hide (hid (hide w) n) = hide (hid w (n + 1)); rw [ih]

theorem hid_apply (w : Fin N → EReal) (n : Nat) (j : Fin N) (h : ∀ m < n, nth w m ≠ j) : hid w n j = w j := by
  induction n with
  | zero => rfl
  | succ n ih =>
    show (if j = nth w n then ⊥ else hid w n j) = w j
    rw [if_neg fun e => h n (Nat.lt_succ_self n) e.symm]
    exact ih fun m hm => h m (Nat.lt_succ_of_lt hm)

/-- A row that is `w` on a list in order and at the bottom elsewhere has the list's members as its places. -/
theorem nth_of_list (w : Fin N → EReal) (hw : ∀ j, ⊥ < w j) (l : List (Fin N)) (hl : l.Pairwise (Before w)) :
    ∀ v : Fin N → EReal, (∀ j, v j = if j ∈ l then w j else ⊥) → ∀ (k : Nat) (hk : k < l.length), nth v k = l[k] := by
  induction l with
  | nil => intro v hv k hk; exact absurd hk (by simp)
  | cons a l ih =>
    rw [List.pairwise_cons] at hl
    intro v hv k hk
    have hb : best v = a := by
      refine best_eq v a fun j => ?_
      rw [hv a, if_pos List.mem_cons_self, hv j]
      split
      · rename_i hj
        rcases List.mem_cons.1 hj with rfl | hj
        · exact .inr ⟨rfl, le_refl _⟩
        · exact (hl.1 j hj).imp id fun h => ⟨h.1, h.2.le⟩
      · exact .inl (hw a)
    have ha : a ∉ l := fun h => by
      rcases hl.1 a h with h | h
      · exact lt_irrefl _ h
      · exact lt_irrefl _ h.2
    cases k with
    | zero => exact hb
    | succ k =>
      have hh : ∀ j, hide v j = if j ∈ l then w j else ⊥ := fun j => by
        show (if j = best v then ⊥ else v j) = _
        rw [hb, hv j]
        by_cases e : j = a
        · subst e; simp [ha]
        · simp [e]
      have := ih hl.2 (hide v) hh k (by simpa using hk)
      show best (hid v (k + 1)) = _
      rw [← hid_hide]
      exact this

theorem stable_agree (R S : Fin N → Fin N → Bool) (l : List (Fin N)) (hl : l.Pairwise (· < ·))
    (h : ∀ a b, a < b → R b a = S b a) : stableSort R l = stableSort S l := by
  induction l with
  | nil => rfl
  | cons a l ih =>
    rw [List.pairwise_cons] at hl
    unfold stableSort
    rw [ih hl.2]
    exact insertBefore_congr R S a _ fun b hb => h a b (hl.1 b ((perm_stableSort S l).mem_iff.1 hb))

open Classical in
/-- A stable sort by value, greater first, puts the `n`-th highest value's place at `n`. -/
theorem sorted_nth (w : Fin N → EReal) (hw : ∀ j, ⊥ < w j) (k : Fin N) :
    sortedFrom (fun a b => decide (w b < w a)) k = nth w k.val := by
  have hs : sortPositions N (fun a b => decide (w b < w a)) = sortPositions N (fun a b => decide (Before w a b)) :=
    stable_agree _ _ _ (List.pairwise_lt_finRange N) fun a b hab => by
      refine decide_eq_decide.2 ⟨Or.inl, fun h => ?_⟩
      rcases h with h | h
      · exact h
      · exact absurd h.2 (not_lt.2 hab.le)
  have key : (sortPositions N (fun a b => decide (w b < w a))).Pairwise (Before w) := by
    rw [hs]
    have hp := pairwise_stableSort (fun a b => decide (Before w a b)) (fun a b => decide (Before w a b))
      (fun a b h => ?_) (fun _ _ h => h) (fun a b c h1 h2 => ?_) (List.finRange N)
    · have hn : (stableSort (fun a b => decide (Before w a b)) (List.finRange N)).Nodup :=
        (perm_stableSort _ _).nodup_iff.2 (List.nodup_finRange N)
      refine (hp.and hn).imp fun {a b} h => ?_
      have h1 : ¬ Before w b a := by simpa using h.1
      have h2 : a ≠ b := h.2
      unfold Before at h1 ⊢
      push Not at h1
      rcases lt_or_eq_of_le h1.1 with g | g
      · exact .inl g
      · exact .inr ⟨g, lt_of_le_of_ne (h1.2 g.symm) h2⟩
    · have h' : Before w a b := by simpa using h
      refine decide_eq_false fun g => ?_
      clear h
      rcases g with g | g <;> rcases h' with h | h
      · exact lt_asymm g h
      · exact absurd g (by rw [h.1]; exact lt_irrefl _)
      · exact absurd h (by rw [g.1]; exact lt_irrefl _)
      · exact lt_asymm g.2 h.2
    · have h1 : ¬ Before w a b := by simpa using h1
      have h2 : ¬ Before w b c := by simpa using h2
      refine decide_eq_false ?_
      unfold Before at h1 h2 ⊢
      push Not at h1 h2 ⊢
      refine ⟨h1.1.trans h2.1, fun e => ?_⟩
      have e1 : w b = w a := le_antisymm (by rw [← e]; exact h2.1) h1.1
      exact (h2.2 (e.trans e1.symm)).trans (h1.2 e1)
  have hall : ∀ j, w j = if j ∈ sortPositions N (fun a b => decide (w b < w a)) then w j else ⊥ := fun j => by
    rw [if_pos ((perm_sortPositions N _).mem_iff.2 (List.mem_finRange j))]
  have := nth_of_list w hw _ key w hall k.val (by rw [length_sortPositions]; exact k.isLt)
  rw [this]; rfl

theorem nth_inj (w : Fin N → EReal) (hw : ∀ j, ⊥ < w j) {a b : Nat} (ha : a < N) (hb : b < N) (h : nth w a = nth w b) : a = b := by
  have := sorted_nth w hw ⟨a, ha⟩
  rw [h, ← sorted_nth w hw ⟨b, hb⟩] at this
  exact congrArg Fin.val (sortedFrom_injective _ this)

theorem hid_nth (w : Fin N → EReal) (hw : ∀ j, ⊥ < w j) {n : Nat} (hn : n < N) : hid w n (nth w n) = w (nth w n) :=
  hid_apply w n _ fun _ hm e => hm.ne (nth_inj w hw (hm.trans hn) hn e)

/-- A left fold that keeps the better of two (value, place) pairs, the earlier place of equals, ends at the best place. -/
theorem fold_best {ι : Type} (w : Fin N → EReal) (g : ι → Fin N) (step : EReal × Nat → EReal × Nat → EReal × Nat)
    (hstep : ∀ a b, step a b = if b.1 < a.1 ∨ (a.1 = b.1 ∧ a.2 < b.2) then a else b) (l : List ι) (hl : ∀ k, ∃ i ∈ l, g i = k) :
    (l.foldl (fun r i => step r (w (g i), (g i).val)) (⊥, 0)).2 = (best w).val := by
  have inv : ∀ (l : List ι) (r₀ : EReal × Nat), ∃ r, l.foldl (fun r i => step r (w (g i), (g i).val)) r₀ = r
      ∧ (r = r₀ ∨ ∃ i ∈ l, r = (w (g i), (g i).val))
      ∧ (∀ i ∈ l, w (g i) < r.1 ∨ (w (g i) = r.1 ∧ r.2 ≤ (g i).val)) ∧ (r₀.1 < r.1 ∨ (r₀.1 = r.1 ∧ r.2 ≤ r₀.2)) := by
    intro l
    induction l with
    | nil => intro r₀; exact ⟨r₀, rfl, .inl rfl, fun i hi => absurd hi (by simp), .inr ⟨rfl, le_refl _⟩⟩
    | cons i l ih =>
      intro r₀
      obtain ⟨r, hr, hmem, hall, hfirst⟩ := ih (step r₀ (w (g i), (g i).val))
      rw [hstep] at hr hmem hfirst
      refine ⟨r, by rw [List.foldl_cons, hstep]; exact hr, ?_, ?_, ?_⟩
      · rcases hmem with h | ⟨j, hj, h⟩
        · split at h
          · exact .inl h
          · exact .inr ⟨i, List.mem_cons_self, h⟩
        · exact .inr ⟨j, List.mem_cons_of_mem i hj, h⟩
      · intro j hj
        rcases List.mem_cons.1 hj with rfl | hj
        · split at hfirst
          · rename_i hc
            rcases hc with hc | hc <;> rcases hfirst with hf | hf
            · exact .inl (hc.trans hf)
            · exact .inl (hf.1 ▸ hc)
            · exact .inl (lt_of_eq_of_lt hc.1.symm hf)
            · exact .inr ⟨hc.1.symm.trans hf.1, hf.2.trans hc.2.le⟩
          · exact hfirst
        · exact hall j hj
      · split at hfirst
        · exact hfirst
        · rename_i hc
          push Not at hc
          have h1 : r₀.1 ≤ w (g i) := hc.1
          rcases hfirst with hf | hf
          · exact .inl (lt_of_le_of_lt h1 hf)
          · rcases lt_or_eq_of_le h1 with h | h
            · exact .inl (hf.1 ▸ h)
            · exact .inr ⟨h.trans hf.1, hf.2.trans (hc.2 h)⟩
  obtain ⟨r, hr, hmem, hall, hfirst⟩ := inv l (⊥, 0)
  rw [hr]
  have hbig : ∀ k, w k < r.1 ∨ (w k = r.1 ∧ r.2 ≤ k.val) := fun k => by
    obtain ⟨i, hi, rfl⟩ := hl k
    exact hall i hi
  rcases hmem with h | ⟨i, -, h⟩
  · rw [h] at hbig ⊢
    have : best w = 0 := best_eq w 0 fun k => by
      rcases hbig k with h | h
      · exact absurd h not_lt_bot
      · rcases hbig 0 with h' | h'
        · exact absurd h' not_lt_bot
        · exact .inr ⟨h.1.trans h'.1.symm, Fin.zero_le k⟩
    rw [this]; rfl
  · rw [h] at hbig ⊢
    rw [best_eq w (g i) fun k => hbig k]

/-- The guarded squared distance of two points. -/
def gap (a b p q : EReal) : EReal := (a - p) * (a - p) + (b - q) * (b - q) + ((9223372 / 2 ^ 63 : ℝ) : EReal)

/-- The row with every point near the best one struck out. -/
def thin (x y c : Fin N → EReal) : Fin N → EReal := fun j =>
  if gap (x j) (y j) (x (best c)) (y (best c)) < ((4 : ℝ) : EReal) then ⊥ else c j

/-- The row after `n` such steps. -/
def thinned (x y c : Fin N → EReal) : Nat → Fin N → EReal
  | 0 => c
  | n + 1 => thin x y (thinned x y c n)

theorem mul_self_nonneg (a : EReal) : 0 ≤ a * a := by
  rcases le_total 0 a with h | h
  · exact mul_nonneg h h
  · rw [← neg_mul_neg]
    exact mul_nonneg (EReal.neg_nonneg.2 h) (EReal.neg_nonneg.2 h)

theorem gap_nonneg (a b p q : EReal) : 0 ≤ gap a b p q :=
  add_nonneg (add_nonneg (mul_self_nonneg _) (mul_self_nonneg _)) (EReal.coe_nonneg.2 (by norm_num))

theorem sqrt_nonneg (z : EReal) (hz : 0 ≤ z) : 0 ≤ Ideal.sqrt z := by
  induction z with
  | bot => exact absurd hz (by decide)
  | top => exact le_top
  | coe r =>
    have hr : 0 ≤ r := EReal.coe_nonneg.1 hz
    show 0 ≤ (if r < 0 then ⊥ else (Real.sqrt r : EReal))
    rw [if_neg (not_lt.2 hr)]
    exact EReal.coe_nonneg.2 (Real.sqrt_nonneg r)

theorem sqrt_lt_two (z : EReal) (hz : 0 ≤ z) : Ideal.sqrt z < ((2 : ℝ) : EReal) ↔ z < ((4 : ℝ) : EReal) := by
  induction z with
  | bot => exact absurd hz (by decide)
  | top => exact ⟨fun h => absurd h not_top_lt, fun h => absurd h not_top_lt⟩
  | coe r =>
    have hr : 0 ≤ r := EReal.coe_nonneg.1 hz
    show (if r < 0 then ⊥ else (Real.sqrt r : EReal)) < _ ↔ _
    rw [if_neg (not_lt.2 hr), EReal.coe_lt_coe_iff, EReal.coe_lt_coe_iff, Real.sqrt_lt' (by norm_num)]
    norm_num

/-- The centerness target at squared distance `z`. -/
def cent (z : EReal) : EReal :=
  if ((2 : ℝ) : EReal) ≤ Ideal.sqrt z then 0 else 1 - Ideal.sqrt (Ideal.div (Ideal.sqrt z) ((2 : ℝ) : EReal))

/-- The smooth absolute error. -/
def smoothAbs (d : EReal) : EReal :=
  if FloatOps.absf (F := Ideal) (φ := .f32) d < 1 then
    Ideal.ofBits .f32 0x3F000000#32 * FloatOps.absf (F := Ideal) (φ := .f32) d * FloatOps.absf (F := Ideal) (φ := .f32) d
  else FloatOps.absf (F := Ideal) (φ := .f32) d - Ideal.ofBits .f32 0x3F000000#32

/-- `v` between the lowest probability and `hi`. -/
def clamp (hi v : EReal) : EReal := min hi (max (Ideal.ofBits .f32 0x33D6BF95#32) v)

/-- Minus the binary cross entropy of `v` against `t`. -/
def entropy (t v : EReal) : EReal :=
  t * Ideal.log (clamp (Ideal.ofBits .f32 0x3F7FFFFE#32) v)
    + (1 - t) * Ideal.log (1 - clamp (Ideal.ofBits .f32 0x3F7FFFFE#32) v)

end Cert.Proof.Rows

end
-- ==== Proof.Lits.lean ====
module

public import Idealize.ShloMosaic.Lib.IdealHost

@[expose] public section

/-! The float words of the programs, as the numbers they are. -/

namespace Cert.Proof.Lits

open Idealize.ShloMosaic

theorem ninf : Ideal.ofBits .f32 0xFF800000#32 = ⊥ := by simp [Ideal.ofBits, Ideal.ieee]

theorem low : Ideal.ofBits .f32 0x33D6BF95#32 = ((14073749 / 2 ^ 47 : ℝ) : EReal) := by
  simp [Ideal.ofBits, Ideal.ieee, -EReal.coe_mul]; norm_num

theorem high : Ideal.ofBits .f32 0x3F7FFFFE#32 = ((16777214 / 2 ^ 24 : ℝ) : EReal) := by
  simp [Ideal.ofBits, Ideal.ieee, -EReal.coe_mul]; norm_num

theorem eps : Ideal.ofBits .f32 0x2B8CBCCC#32 = ((9223372 / 2 ^ 63 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem half : Ideal.ofBits .f32 0x3F000000#32 = ((1 / 2 : ℝ) : EReal) := by
  simp [Ideal.ofBits, Ideal.ieee, -EReal.coe_mul]; norm_num

theorem ten : Ideal.ofBits .f32 0x41200000#32 = ((10 : ℝ) : EReal) := by
  simp [Ideal.ofBits, Ideal.ieee, -EReal.coe_mul]; norm_num

theorem twenty : Ideal.ofBits .f32 0x41A00000#32 = ((20 : ℝ) : EReal) := by
  simp [Ideal.ofBits, Ideal.ieee, -EReal.coe_mul]; norm_num

theorem rest : Ideal.ofBits .f32 0x469C2C00#32 = ((19990 : ℝ) : EReal) := by
  simp [Ideal.ofBits, Ideal.ieee, -EReal.coe_mul]; norm_num

end Cert.Proof.Lits
-- ==== Proof.RefRead.lean ====
module

public import proofs.«01_k».proof.Proof.RefFinal
public import proofs.«01_k».proof.Proof.Rows
public import proofs.«01_k».proof.Proof.Lits
public import Idealize.ShloMosaic.Lib.Pointwise

@[expose] public section

noncomputable section

/-! The reference's values over the extended reals, read at one place. -/

namespace Cert.Proof.Ref

open Cert.ReferenceIdeal Cert.ReferenceIdeal.Gen Idealize.ShloMosaic Idealize.ShloMosaic.TcCoe Idealize.SL.Sem
  Idealize.ShloMosaic.StableHlo Cert.Proof.Rows

/-- Row `b` of `w`. -/
def row (w : T Ideal S16x20000 .f32) (b : Fin 16) : Fin 20000 → EReal := fun j => w (ix2 b j)

/-- Coordinate `i` of row `b`. -/
def coord (x : T Ideal S16x20000x2 .f32) (i : Fin 2) (b : Fin 16) : Fin 20000 → EReal := fun j => x (ix3 b j i)

theorem toInt_ofNat (n : Nat) (h : n < 20000) : (BitVec.ofNat 32 n).toInt = n := by
  rw [BitVec.toInt_eq_toNat_of_lt] <;> simp [BitVec.toNat_ofNat] <;> omega

theorem slt_ofNat (m n : Nat) (hm : m < 20000) (hn : n < 20000) :
    IntOp.cmpi .slt (BitVec.ofNat 32 m) (BitVec.ofNat 32 n) = if m < n then 1#1 else 0#1 := by
  have h : (BitVec.ofNat 32 m).slt (BitVec.ofNat 32 n) = decide (m < n) := by
    simp only [BitVec.slt, toInt_ofNat m hm, toInt_ofNat n hn, Nat.cast_lt]
  by_cases hc : m < n
  · rw [if_pos hc]; exact congrArg BitVec.ofBool (h.trans (decide_eq_true hc))
  · rw [if_neg hc]; exact congrArg BitVec.ofBool (h.trans (decide_eq_false hc))

/-- The better of two (value, place) pairs, the earlier place of equals. -/
def better (a b : EReal × Nat) : EReal × Nat := if b.1 < a.1 ∨ (a.1 = b.1 ∧ a.2 < b.2) then a else b

def word (r : EReal × Nat) : Ideal .f32 × BitVec 32 := (r.1, BitVec.ofNat 32 r.2)

theorem reducer_word (a b : EReal × Nat) (ha : a.2 < 20000) (hb : b.2 < 20000) :
    reducer_argmax_f32_i32 (F := Ideal) (word a) (word b) = word (better a b) := by
  unfold reducer_argmax_f32_i32 better word
  simp only [slt_ofNat _ _ ha hb, Ideal.cmpf_def, Ideal.cmp]
  rcases lt_trichotomy b.1 a.1 with h | h | h
  · by_cases hc : a.2 < b.2 <;> simp [h, h.ne', hc, IntOp.ori, IntOp.andi, Scalar.select]
  · by_cases hc : a.2 < b.2 <;> simp [h, hc, IntOp.ori, IntOp.andi, Scalar.select]
  · simp [h, h.ne, h.not_gt, IntOp.ori, IntOp.andi, Scalar.select]

theorem better_lt (a b : EReal × Nat) (ha : a.2 < 20000) (hb : b.2 < 20000) : (better a b).2 < 20000 := by
  unfold better; split <;> assumption

theorem foldl_word {ι : Type} (f : ι → EReal × Nat) (hf : ∀ i, (f i).2 < 20000) (l : List ι) (r : EReal × Nat) (hr : r.2 < 20000) :
    l.foldl (fun r i => reducer_argmax_f32_i32 (F := Ideal) r (word (f i))) (word r) = word (l.foldl (fun r i => better r (f i)) r) := by
  induction l generalizing r with
  | nil => rfl
  | cons i l ih => rw [List.foldl_cons, List.foldl_cons, reducer_word _ _ hr (hf i)]; exact ih _ (better_lt _ _ hr (hf i))

theorem arg_at (w : T Ideal S16x20000 .f32) (b : Fin 16) : arg w (ix1 b) = BitVec.ofNat 32 (best (row w b)).val := by
  unfold arg
  rw [Ideal.argReduce_eq_reduce2, Host.reduce2_eq_foldl_fiber]
  unfold Host.argReduceFiber
  have hf : ∀ n : Fin S16x20000.numel, reducesTo_S16x20000_S16_d1.drop (S16x20000.rowMajor.symm n) = ix1 b →
      ∃ k : Fin 20000, ix2 b k = S16x20000.rowMajor.symm n := fun n hn =>
    (Shape.ReducesTo.fiber_r2_a1 reducesTo_S16x20000_S16_d1 (ix1 b) _).1 hn
  rw [List.map_congr_left (g := fun n => word (row w b ((S16x20000.rowMajor.symm n) 1), ((S16x20000.rowMajor.symm n) 1 : Fin 20000).val)),
    List.foldl_map]
  · refine (congrArg Prod.snd (show _ = word _ from ?_)).trans (congrArg (BitVec.ofNat 32)
      (fold_best (row w b) (fun n : Fin S16x20000.numel => ((S16x20000.rowMajor.symm n) 1 : Fin 20000)) better (fun _ _ => rfl)
        ((List.finRange S16x20000.numel).filter fun n => reducesTo_S16x20000_S16_d1.drop (S16x20000.rowMajor.symm n) = ix1 b)
        fun k => ⟨S16x20000.rowMajor (ix2 b k), ?_, ?_⟩))
    · have e : ((constant S_ .f32 0xFF800000#32 : S_.Idx → Ideal .f32) (Shape.Idx.first h_S_),
          constantI S_ 32 0#32 (Shape.Idx.first h_S_)) = word (⊥, 0) := Prod.ext Lits.ninf rfl
      rw [e]
      exact foldl_word _ (fun i => Fin.isLt _) _ _ (by norm_num)
    · simp only [List.mem_filter, List.mem_finRange, true_and, decide_eq_true_eq, Equiv.symm_apply_apply]
      exact (Shape.ReducesTo.fiber_r2_a1 reducesTo_S16x20000_S16_d1 (ix1 b) _).2 ⟨k, rfl⟩
    · simp only [Equiv.symm_apply_apply]; rfl
  · intro n hn
    simp only [List.mem_filter, List.mem_finRange, true_and, decide_eq_true_eq] at hn
    obtain ⟨k, hk⟩ := hf n hn
    show (w (S16x20000.rowMajor.symm n), _) = _
    rw [← hk]
    pointwise [word]
    rfl

theorem along_ix2 {m n : Nat} (b : Fin m) (k : Fin n) (hd : 1 < (⟨2, ![m, n]⟩ : Shape).rank) (a : Fin n) :
    Shape.Idx.along (s := ⟨2, ![m, n]⟩) (ix2 b k) ⟨1, hd⟩ a = ix2 b a := by
  funext i
  fin_cases i
  · exact Function.update_of_ne (fun e => absurd (congrArg Fin.val e) (by simp)) _ _
  · exact Function.update_self _ _ _

/-- A sort along the second axis, read at one place. -/
theorem sort2_at {m n : Nat} {α β : Type} (cmp : α × β → α × β → BitVec 1) (x : (⟨2, ![m, n]⟩ : Shape).Idx → α)
    (y : (⟨2, ![m, n]⟩ : Shape).Idx → β) (b : Fin m) (k : Fin n) :
    (Host.sort2 ⟨2, ![m, n]⟩ 1 cmp x y).2 (ix2 b k)
      = y (ix2 b (sortedFrom (fun a c => cmp (x (ix2 b a), y (ix2 b a)) (x (ix2 b c), y (ix2 b c)) == 1#1) k)) := by
  have hd : 1 < (⟨2, ![m, n]⟩ : Shape).rank := Nat.one_lt_two
  unfold Host.sort2
  rw [dif_pos hd]
  refine (congrArg y (along_ix2 b k hd _)).trans (congrArg (fun R => y (ix2 b (sortedFrom R k))) (funext₂ fun a c => ?_))
  exact congrArg₂ (fun p q => cmp (x p, y p) (x q, y q) == 1#1) (along_ix2 b k hd a) (along_ix2 b k hd c)

theorem top_at (w : T Ideal S16x20000 .f32) (hw : ∀ j, ⊥ < w j) (b : Fin 16) (k : Fin 10) :
    top w (ix2 b k) = BitVec.ofNat 32 (nth (row w b) k.val).val := by
  have hk : k.val < 20000 := k.isLt.trans (by norm_num)
  unfold top
  pointwise [Host.topK]
  rw [← sorted_nth (row w b) (fun j => hw (ix2 b j)) ⟨k.val, hk⟩, sort2_at]
  have hR : (fun a c : Fin 20000 => FloatOps.cmpfTotal (F := Ideal) (φ := .f32) .gt (w (ix2 b a)) (w (ix2 b c)) == 1#1)
      = fun a c => decide (row w b c < row w b a) := funext₂ fun a c => by
    rw [Ideal.cmpfTotal_def]
    by_cases h : row w b c < row w b a
    · rw [decide_eq_true h, beq_iff_eq]
      exact congrArg BitVec.ofBool (decide_eq_true h)
    · rw [decide_eq_false h, beq_eq_false_iff_ne]
      intro e
      have e' : BitVec.ofBool (decide (row w b c < row w b a)) = 1#1 := e
      rw [decide_eq_false h] at e'
      exact absurd e' (by decide)
  rw [← hR]
  rfl

theorem wrap_word (n : Fin 20000) : Scalar.select (IntOp.cmpi .slt (BitVec.ofNat 32 n.val) 0#32)
    (IntOp.addi (BitVec.ofNat 32 n.val) 20000#32) (BitVec.ofNat 32 n.val) = BitVec.ofNat 32 n.val := by
  rw [show (0#32) = BitVec.ofNat 32 0 from rfl, slt_ofNat _ _ n.isLt (by norm_num), if_neg (Nat.not_lt_zero _)]
  rfl

theorem wrap10_at (i : T Ideal S16x10 .i32) (b : Fin 16) (k : Fin 10) (n : Fin 20000) (h : i (ix2 b k) = BitVec.ofNat 32 n.val) :
    wrap10 (F := Ideal) i (ix3 b k 0) = BitVec.ofNat 32 n.val := by
  pointwise [wrap10, neg10, len10]
  rw [h]
  exact wrap_word n

theorem wrap1_at (i : T Ideal S16 .i32) (b : Fin 16) (n : Fin 20000) (h : i (ix1 b) = BitVec.ofNat 32 n.val) :
    wrap1 (F := Ideal) (col (F := Ideal) i) (ix3 b 0 0) = BitVec.ofNat 32 n.val := by
  pointwise [wrap1, neg1, col]
  rw [h]
  exact wrap_word n

section
variable (b : Fin 16) (n : Fin 20000)

theorem operand10 (i : IVec S16x10x1 32) (k : Fin 10) (h : i (ix3 b k 0) = BitVec.ofNat 32 n.val) :
    gather_S16x20000_S16x10x1_S16x10_n_1_0_0_1_2_11.operandIdx (ix2 b k) i = ix2 b n := by
  have hs : gather_S16x20000_S16x10x1_S16x10_n_1_0_0_1_2_11.siIdx (ix2 b k) ⟨0, Nat.one_pos⟩ = ix3 b k 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000_S16x10x1_S16x10_n_1_0_0_1_2_11.siIdx (ix2 b k) ⟨0, Nat.one_pos⟩)).toInt.toNat 19999 + 0 + 0 = n.val
    rw [hs, h, toInt_ofNat n.val n.isLt]
    have := n.isLt
    omega

end

end Cert.Proof.Ref

end
-- ==== Proof.RefAt.lean ====
module

public import proofs.«01_k».proof.Proof.RefRead

@[expose] public section

noncomputable section

/-! The reference's lookups, suppression steps and distances, read at one place. -/

namespace Cert.Proof.Ref

open Cert.ReferenceIdeal Cert.ReferenceIdeal.Gen Idealize.ShloMosaic Idealize.ShloMosaic.TcCoe Idealize.SL.Sem
  Idealize.ShloMosaic.StableHlo Cert.Proof.Rows

section
variable (b : Fin 16) (n : Fin 20000)

theorem operand10x2 (i : IVec S16x10x1 32) (k : Fin 10) (c : Fin 2) (h : i (ix3 b k 0) = BitVec.ofNat 32 n.val) :
    gather_S16x20000x2_S16x10x1_S16x10x2_2_1_0_0_1_2_112.operandIdx (ix3 b k c) i = ix3 b n c := by
  have hs : gather_S16x20000x2_S16x10x1_S16x10x2_2_1_0_0_1_2_112.siIdx (ix3 b k c) ⟨0, Nat.one_pos⟩ = ix3 b k 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000x2_S16x10x1_S16x10x2_2_1_0_0_1_2_112.siIdx (ix3 b k c) ⟨0, Nat.one_pos⟩)).toInt.toNat 19999 + 0 + 0 = n.val
    rw [hs, h, toInt_ofNat n.val n.isLt]
    have := n.isLt
    omega
  · show GatherDims.start _ _ _ 2 + GatherDims.batchCoord _ _ 2 + GatherDims.offCoord _ _ 2 = _
    rw [GatherDims.batchCoord_eq_zero _ _ _ (by decide)]
    show 0 + 0 + c.val = c.val
    omega

theorem operand1 (i : IVec S16x1x1 32) (h : i (ix3 b 0 0) = BitVec.ofNat 32 n.val) :
    gather_S16x20000_S16x1x1_S16x1_n_1_0_0_1_2_11.operandIdx (ix2 b 0) i = ix2 b n := by
  have hs : gather_S16x20000_S16x1x1_S16x1_n_1_0_0_1_2_11.siIdx (ix2 b 0) ⟨0, Nat.one_pos⟩ = ix3 b 0 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000_S16x1x1_S16x1_n_1_0_0_1_2_11.siIdx (ix2 b 0) ⟨0, Nat.one_pos⟩)).toInt.toNat 19999 + 0 + 0 = n.val
    rw [hs, h, toInt_ofNat n.val n.isLt]
    have := n.isLt
    omega

theorem operand1x2 (i : IVec S16x1x1 32) (c : Fin 2) (h : i (ix3 b 0 0) = BitVec.ofNat 32 n.val) :
    gather_S16x20000x2_S16x1x1_S16x1x2_2_1_0_0_1_2_112.operandIdx (ix3 b 0 c) i = ix3 b n c := by
  have hs : gather_S16x20000x2_S16x1x1_S16x1x2_2_1_0_0_1_2_112.siIdx (ix3 b 0 c) ⟨0, Nat.one_pos⟩ = ix3 b 0 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000x2_S16x1x1_S16x1x2_2_1_0_0_1_2_112.siIdx (ix3 b 0 c) ⟨0, Nat.one_pos⟩)).toInt.toNat 19999 + 0 + 0 = n.val
    rw [hs, h, toInt_ofNat n.val n.isLt]
    have := n.isLt
    omega
  · show GatherDims.start _ _ _ 2 + GatherDims.batchCoord _ _ 2 + GatherDims.offCoord _ _ 2 = _
    rw [GatherDims.batchCoord_eq_zero _ _ _ (by decide)]
    show 0 + 0 + c.val = c.val
    omega

theorem at10_at (s : T Ideal S16x20000 .f32) (i : T Ideal S16x10 .i32) (k : Fin 10) (h : i (ix2 b k) = BitVec.ofNat 32 n.val) :
    at10 s i (ix2 b k) = row s b n :=
  congrArg s (operand10 b n _ k (wrap10_at i b k n h))

theorem pts10_at (x : T Ideal S16x20000x2 .f32) (i : T Ideal S16x10 .i32) (k : Fin 10) (c : Fin 2)
    (h : i (ix2 b k) = BitVec.ofNat 32 n.val) : pts10 x i (ix3 b k c) = coord x c b n :=
  congrArg x (operand10x2 b n _ k c (wrap10_at i b k n h))

theorem at1_at (s : T Ideal S16x20000 .f32) (i : T Ideal S16 .i32) (h : i (ix1 b) = BitVec.ofNat 32 n.val) :
    at1 s i (ix1 b) = row s b n := by
  have e := congrArg s (operand1 b n _ (wrap1_at i b n h))
  pointwise [at1]
  exact e

theorem pt1_at (x : T Ideal S16x20000x2 .f32) (i : T Ideal S16 .i32) (c : Fin 2) (h : i (ix1 b) = BitVec.ofNat 32 n.val) :
    pt1 x i (ix2 b c) = coord x c b n := by
  have e := congrArg x (operand1x2 b n _ c (wrap1_at i b n h))
  pointwise [pt1]
  exact e

end

theorem sqd_at (x : T Ideal S16x20000x2 .f32) (p : T Ideal S16x2 .f32) (b : Fin 16) (j : Fin 20000) :
    sqd x p (ix2 b j) = gap (coord x 0 b j) (coord x 1 b j) (p (ix2 b 0)) (p (ix2 b 1)) := by
  pointwise [sqd, offs]
  rw [Fin.sum_univ_two, Lits.eps]
  rfl

theorem disp_at (q p : T Ideal S16x2 .f32) (b : Fin 16) :
    disp q p (ix1 b) = gap (q (ix2 b 0)) (q (ix2 b 1)) (p (ix2 b 0)) (p (ix2 b 1)) := by
  pointwise [disp]
  rw [Fin.sum_univ_two, Lits.eps]
  rfl

theorem row_nms (x : T Ideal S16x20000x2 .f32) (s : T Ideal S16x20000 .f32) (b : Fin 16) :
    row (nms x s) b = thin (coord x 0 b) (coord x 1 b) (row s b) := by
  funext j
  unfold row
  pointwise [nms, supp, splat, rowsplat]
  rw [sqd_at, pt1_at b _ x _ 0 (arg_at s b), pt1_at b _ x _ 1 (arg_at s b), Lits.ninf, Lits.two]
  simp only [sqrt_lt_two _ (gap_nonneg _ _ _ _)]
  rfl

theorem row_left (x : T Ideal S16x20000x2 .f32) (s : T Ideal S16x20000 .f32) (b : Fin 16) (n : Nat) :
    row (left x s n) b = thinned (coord x 0 b) (coord x 1 b) (row s b) n := by
  induction n with
  | zero => rfl
  | succ n ih => rw [left, row_nms, ih]; rfl

theorem centGt_at (x : T Ideal S16x20000x2 .f32) (p : T Ideal S16x2 .f32) (b : Fin 16) (j : Fin 20000) :
    centGt x p (ix2 b j) = cent (gap (coord x 0 b j) (coord x 1 b j) (p (ix2 b 0)) (p (ix2 b 1))) := by
  pointwise [centGt, splat, rowsplat]
  rw [sqd_at, Lits.two, max_eq_right (sqrt_nonneg _ (gap_nonneg _ _ _ _))]
  rfl

theorem mean10_at (p : T Ideal S16x10 .f32) (b : Fin 16) : mean10 p (ix1 b) = Ideal.div (∑ k, p (ix2 b k)) (Ideal.ofBits .f32 0x41200000#32) := by
  pointwise [mean10]

theorem total_at (p : T Ideal S16x20000 .f32) (b : Fin 16) : total p (ix1 b) = ∑ k, p (ix2 b k) := by
  pointwise [total]

theorem smooth_at (q : T Ideal S16x10x2 .f32) (p : T Ideal S16x2 .f32) (b : Fin 16) :
    smooth q p (ix1 b) = Ideal.div (∑ k, (smoothAbs (q (ix3 b k 0) - p (ix2 b 0)) + smoothAbs (q (ix3 b k 1) - p (ix2 b 1))))
      (Ideal.ofBits .f32 0x41A00000#32) := by
  pointwise [smooth]
  simp only [Fin.sum_univ_two]
  rfl

theorem class_at (p : T Ideal S16x10 .f32) (b : Fin 16) (k : Fin 10) :
    (Host.negf (addf (onePos p) (mulf (rows10 (noOnes (F := Ideal))) (oneNeg p)) : T Ideal S16x10 .f32) : T Ideal S16x10 .f32) (ix2 b k)
      = -Ideal.log (clamp (Ideal.ofBits .f32 0x3F7FFFFE#32) (p (ix2 b k))) := by
  pointwise [onePos, rows10, noOnes, oneNeg, rows1, ones, clip10, splat10]
  have h : (1 : EReal) - 1 = 0 := EReal.sub_self (by decide) (by decide)
  rw [h, zero_mul, add_zero]
  rfl

theorem bce_at (p t : T Ideal S16x10 .f32) (b : Fin 16) :
    bce p t (ix1 b) = Ideal.div (∑ k, -entropy (t (ix2 b k)) (p (ix2 b k))) (Ideal.ofBits .f32 0x41200000#32) := by
  unfold bce
  rw [mean10_at]
  pointwise [clip10, splat10]
  rfl

theorem fold_ori_some {m : Nat} (P : Fin m → Prop) [DecidablePred P] (s : Finset (Fin m)) :
    Finset.fold IntOp.ori 0#1 (fun k => if P k then 1#1 else 0#1) s = if ∃ k ∈ s, P k then 1#1 else 0#1 := by
  induction s using Finset.cons_induction with
  | empty => simp
  | cons a s ha ih =>
    rw [Finset.fold_cons, ih]
    by_cases h : P a <;> by_cases g : ∃ k ∈ s, P k <;> simp [h, g, IntOp.ori]

theorem negMask_at (i : T Ideal S16x10 .i32) (b : Fin 16) (c : Fin 10 → Fin 20000) (h : ∀ k, i (ix2 b k) = BitVec.ofNat 32 (c k).val)
    (j : Fin 20000) : negMask i (ix2 b j) = if ∃ k, c k = j then 0 else 1 := by
  pointwise [negMask, rowsplat]
  have hc : ∀ k, IntOp.cmpi .eq (BitVec.ofNat 32 j.val) (i (ix2 b k)) = if c k = j then 1#1 else 0#1 := fun k => by
    rw [h]
    by_cases e : c k = j
    · rw [if_pos e, e]; simp [IntOp.cmpi]
    · rw [if_neg e]
      refine congrArg BitVec.ofBool (beq_eq_false_iff_ne.2 fun g => e (Fin.ext ?_))
      have := congrArg BitVec.toNat g
      rw [BitVec.toNat_ofNat, BitVec.toNat_ofNat, Nat.mod_eq_of_lt (j.isLt.trans (by norm_num)),
        Nat.mod_eq_of_lt ((c k).isLt.trans (by norm_num))] at this
      exact this.symm
  simp only [hc]
  rw [fold_ori_some]
  by_cases e : ∃ k, c k = j
  · rw [if_pos e, if_pos (by simpa using e)]; rfl
  · rw [if_neg e, if_neg (by simpa using e)]; rfl

/-- The mean of the logs weighted by a mask, read at one sample. -/
theorem masked_at (M s : T Ideal S16x20000 .f32) (b : Fin 16) :
    (Host.divf (total (mulf (Host.negf M) (Host.log (minimumf (splat (F := Ideal) 0x3F800000#32)
        (maximumf (splat (F := Ideal) 0x33D6BF95#32) (subf (splat (F := Ideal) 0x3F800000#32) s)))))) (total M) : T Ideal S16 .f32) (ix1 b)
      = Ideal.div (∑ j, -M (ix2 b j) * Ideal.log (clamp 1 (1 - row s b j))) (∑ j, M (ix2 b j)) := by
  pointwise [splat]
  rw [total_at, total_at]
  pointwise [splat]
  rfl

theorem negLoss_at (s : T Ideal S16x20000 .f32) (i : T Ideal S16x10 .i32) (b : Fin 16) :
    negLoss s i (ix1 b) = Ideal.div (∑ j, -negMask i (ix2 b j) * Ideal.log (clamp 1 (1 - row s b j))) (∑ j, negMask i (ix2 b j)) :=
  masked_at (negMask i) s b

end Cert.Proof.Ref

end
-- ==== Proof.KerVal.lean ====
module

public import proofs.«01_k».proof.Proof.Gen.KernelIdeal.Frame

@[expose] public section

noncomputable section

/-! The kernel's values, named by what they are. -/

namespace Cert.Proof.Ker

open Cert.KernelIdeal Cert.KernelIdeal.Gen Idealize.ShloMosaic Idealize.ShloMosaic.TcCoe Idealize.SL.Sem

variable {F : FTy → Type} [FloatOps F]

/-- The lane numbers. -/
def lin : IVec S16x20000 32 := iota .tc S16x20000 32 [1] iota_S16x20000_d1_w32

/-- One value a row, laid along its row. -/
def along {α : Type} (v : S16.Idx → α) : S16x20000.Idx → α :=
  broadcastTo S16x20000 (shapeCast S16x1 v shapeCasts_S16_S16x1) broadcasts_S16x1_S16x20000

def lit (w : BitVec 32) : FVec F S16x20000 .f32 := broadcast S16x20000 (Scalar.ofBits .f32 w)
def lit1 (w : BitVec 32) : FVec F S16 .f32 := broadcast S16 (Scalar.ofBits .f32 w)

/-- The highest value of each row. -/
def rmax (w : FVec F S16x20000 .f32) : FVec F S16 .f32 :=
  multiReduction .maximumf [1] S16 w 0xFF800000#32 reduces_S16x20000_S16 (.inl rfl) rfl

/-- Each lane's number where the row is highest, a large number elsewhere. -/
def cand (w : FVec F S16x20000 .f32) : IVec S16x20000 32 :=
  select (cmpf .oeq w (along (rmax w))) lin (broadcast S16x20000 1073741824#32)

/-- The first lane of the highest value. -/
def pos (w : FVec F S16x20000 .f32) : IVec S16 32 :=
  multiReductionI .minsi [1] S16 (cand w) 2147483647#32 reduces_S16x20000_S16 rfl

/-- The mark of that lane. -/
def hot (w : FVec F S16x20000 .f32) : IVec S16x20000 1 := cmpi .eq lin (along (pos w))

def sum1 (a : FVec F S16x20000 .f32) : FVec F S16 .f32 :=
  multiReduction .add [1] S16 a 0x00000000#32 reduces_S16x20000_S16 (.inl rfl) rfl

/-- The value `a` has at that lane. -/
def ext (a w : FVec F S16x20000 .f32) : FVec F S16 .f32 := sum1 (select (hot w) a (lit 0x00000000#32))

def drop (w : FVec F S16x20000 .f32) : FVec F S16x20000 .f32 := select (hot w) (lit 0xFF800000#32) w

/-- The scores after `n` picks. -/
def work (s : FVec F S16x20000 .f32) : Nat → FVec F S16x20000 .f32
  | 0 => s
  | n + 1 => drop (work s n)

def sq (a w : FVec F S16x20000 .f32) : FVec F S16x20000 .f32 := mulf (subf a (along (ext a w))) (subf a (along (ext a w)))

/-- The guarded squared distance from the best point. -/
def near (x y w : FVec F S16x20000 .f32) : FVec F S16x20000 .f32 := addf (addf (sq x w) (sq y w)) (lit 0x2B8CBCCC#32)

def supp (x y w : FVec F S16x20000 .f32) : FVec F S16x20000 .f32 :=
  select (cmpf .olt (near x y w) (lit 0x40800000#32)) (lit 0xFF800000#32) w

/-- The scores after `n` suppressions. -/
def left (x y c : FVec F S16x20000 .f32) : Nat → FVec F S16x20000 .f32
  | 0 => c
  | n + 1 => supp x y (left x y c n)

def sm (a p : FVec F S16 .f32) : FVec F S16 .f32 :=
  select (cmpf .olt (absf (subf a p)) (lit1 0x3F800000#32))
    (mulf (mulf (lit1 0x3F000000#32) (absf (subf a p))) (absf (subf a p))) (subf (absf (subf a p)) (lit1 0x3F000000#32))

def clip (hi : BitVec 32) (v : FVec F S16 .f32) : FVec F S16 .f32 := minimumf (lit1 hi) (maximumf (lit1 0x33D6BF95#32) v)

def dist (a b p q : FVec F S16 .f32) : FVec F S16 .f32 :=
  sqrt (addf (addf (mulf (subf a p) (subf a p)) (mulf (subf b q) (subf b q))) (lit1 0x2B8CBCCC#32))

def cgt (a b p q : FVec F S16 .f32) : FVec F S16 .f32 :=
  select (cmpf .oge (dist a b p q) (lit1 0x40000000#32)) (lit1 0x00000000#32)
    (subf (lit1 0x3F800000#32) (sqrt (divf (dist a b p q) (lit1 0x40000000#32))))

def entropy (t v : FVec F S16 .f32) : FVec F S16 .f32 :=
  addf (mulf t (log (clip 0x3F7FFFFE#32 v))) (mulf (subf (lit1 0x3F800000#32) t)
    (log (subf (lit1 0x3F800000#32) (clip 0x3F7FFFFE#32 v))))

section
variable (x y s z : FVec F S16x20000 .f32) (p q : FVec F S16 .f32)

def pointSum : Nat → FVec F S16 .f32
  | 0 => lit1 0x00000000#32
  | n + 1 => addf (addf (pointSum n) (sm (ext x (work s n)) p)) (sm (ext y (work s n)) q)

def classSum : Nat → FVec F S16 .f32
  | 0 => lit1 0x00000000#32
  | n + 1 => subf (classSum n) (log (clip 0x3F7FFFFE#32 (rmax (work s n))))

def centSum : Nat → FVec F S16 .f32
  | 0 => lit1 0x00000000#32
  | n + 1 => subf (centSum n) (entropy (cgt (ext x (work s n)) (ext y (work s n)) p q) (ext z (work s n)))

def negTop : Nat → FVec F S16 .f32
  | 0 => lit1 0x00000000#32
  | n + 1 => subf (negTop n) (log (clip 0x3F800000#32 (subf (lit1 0x3F800000#32) (rmax (work s n)))))

def negAll : FVec F S16x20000 .f32 :=
  subf (lit 0x00000000#32) (log (minimumf (lit 0x3F800000#32) (maximumf (lit 0x33D6BF95#32) (subf (lit 0x3F800000#32) s))))

def loss : FVec F S16 .f32 :=
  addf (addf (addf (divf (pointSum x y s p q 10) (lit1 0x41A00000#32)) (divf (classSum s 10) (lit1 0x41200000#32)))
    (divf (centSum x y s z p q 10) (lit1 0x41200000#32)))
    (divf (subf (sum1 (negAll s)) (negTop s 10)) (lit1 0x469C2C00#32))

/-- Column `k` of the scalars holds `v`, the others nought. -/
def put (k : BitVec 32) (v : FVec F S16 .f32) : FVec F S16x8 .f32 :=
  select (cmpi .eq (iota .tc S16x8 32 [1] iota_S16x8_d1_w32) (broadcast S16x8 k))
    (broadcastTo S16x8 (shapeCast S16x1 (shapeCast S16x1 v shapeCasts_S16_S16x1) shapeCasts_S16x1_S16x1) broadcasts_S16x1_S16x8)
    (broadcast S16x8 (Scalar.ofBits .f32 0x00000000#32))

def scal : Nat → FVec F S16x8 .f32
  | 0 => addf (put 0#32 (loss x y s z p q)) (put 1#32 (dist (ext x (mulf s z)) (ext y (mulf s z)) p q))
  | n + 1 => addf (scal n) (put (BitVec.ofNat 32 (n + 2)) (ext (mulf s z) (left x y (mulf s z) n)))

end

/-- Row `k` holds `v`, the others nought. -/
def putRow (k : BitVec 32) (v : IVec S16 32) : IVec S16x16 32 :=
  select (cmpi .eq (iota .tc S16x16 32 [0] iota_S16x16_d0_w32) (broadcast S16x16 k))
    (broadcastTo S16x16 (shapeCast S1x16 (shapeCast S1x16 v shapeCasts_S16_S1x16) shapeCasts_S1x16_S1x16) broadcasts_S1x16_S16x16)
    (broadcast S16x16 0#32)

/-- The picks placed one after the other by `put`. -/
def place (put : BitVec 32 → IVec S16 32 → IVec S16x16 32) (v : Nat → IVec S16 32) : Nat → IVec S16x16 32
  | 0 => broadcast S16x16 0#32
  | n + 1 => addi (place put v n) (put (BitVec.ofNat 32 n) (v n))

/-- The sixteen picks: ten by score, six by suppression. -/
def picks (x y s z : FVec F S16x20000 .f32) (n : Nat) : IVec S16 32 :=
  if n < 10 then pos (work s n) else pos (left x y (mulf s z) (n - 10))

end Cert.Proof.Ker

end
-- ==== Proof.KerRead.lean ====
module

public import proofs.«01_k».proof.Proof.KerVal
public import proofs.«01_k».proof.Proof.Rows
public import proofs.«01_k».proof.Proof.Lits
public import Idealize.ShloMosaic.Lib.Pointwise

@[expose] public section

noncomputable section

/-! The kernel's values over the extended reals, read at one place. -/

namespace Cert.Proof.Ker

open Cert.KernelIdeal Cert.KernelIdeal.Gen Idealize.ShloMosaic Idealize.ShloMosaic.TcCoe Idealize.SL.Sem Cert.Proof.Rows

/-- Row `b` of `w`. -/
def row (w : S16x20000.Idx → EReal) (b : Fin 16) : Fin 20000 → EReal := fun j => w (ix2 b j)

theorem fold_max_best (w : Fin 20000 → EReal) : Finset.fold max (⊥ : EReal) w Finset.univ = w (best w) := by
  refine le_antisymm ?_ ?_
  · exact (Finset.fold_max_le _).2 ⟨bot_le, fun k _ => le_best w k⟩
  · exact (Finset.le_fold_max _).2 (.inr ⟨best w, Finset.mem_univ _, le_refl _⟩)

theorem minsi_ofNat (a b : Nat) (ha : a < 2147483648) (hb : b < 2147483648) :
    IntOp.minsi (BitVec.ofNat 32 a) (BitVec.ofNat 32 b) = BitVec.ofNat 32 (min a b) := by
  have h : ∀ c, c < 2147483648 → (BitVec.ofNat 32 c).toInt = c := fun c hc => by
    rw [BitVec.toInt_eq_toNat_of_lt] <;> simp [BitVec.toNat_ofNat] <;> omega
  simp only [IntOp.minsi, BitVec.slt, h a ha, h b hb]
  by_cases hab : a < b
  · simp [hab, Nat.min_eq_left hab.le]
  · simp [hab, Nat.min_eq_right (not_lt.1 hab)]

theorem fold_minsi (f : Fin 20000 → Nat) (i : Nat) (hi : i < 2147483648) (hf : ∀ k, f k < 2147483648) (s : Finset (Fin 20000)) :
    Finset.fold IntOp.minsi (BitVec.ofNat 32 i) (fun k => BitVec.ofNat 32 (f k)) s = BitVec.ofNat 32 (s.fold min i f) := by
  have hlt : ∀ t : Finset (Fin 20000), t.fold min i f < 2147483648 := fun t => (Finset.fold_min_lt _).2 (.inl hi)
  induction s using Finset.cons_induction with
  | empty => rfl
  | cons a s ha ih => rw [Finset.fold_cons, Finset.fold_cons, ih, minsi_ofNat _ _ (hf a) (hlt s)]

theorem rmax_at (w : FVec Ideal S16x20000 .f32) (b : Fin 16) : rmax w (ix1 b) = row w b (best (row w b)) := by
  pointwise [rmax]
  rw [Lits.ninf]
  exact fold_max_best (row w b)

theorem cand_at (w : FVec Ideal S16x20000 .f32) (b : Fin 16) (j : Fin 20000) :
    cand w (ix2 b j) = if row w b j = row w b (best (row w b)) then BitVec.ofNat 32 j.val else 1073741824#32 := by
  pointwise [cand, along, lin]
  rw [rmax_at]
  rfl

theorem pos_at (w : FVec Ideal S16x20000 .f32) (b : Fin 16) : pos w (ix1 b) = BitVec.ofNat 32 (best (row w b)).val := by
  have hlt : ∀ j : Fin 20000, j.val < 1073741824 := fun j => j.isLt.trans (by decide)
  pointwise [pos]
  simp only [cand_at, ← apply_ite (BitVec.ofNat 32)]
  rw [show (2147483647#32) = BitVec.ofNat 32 2147483647 from rfl, fold_minsi _ _ (by decide) (fun k => ?_)]
  · refine congrArg (BitVec.ofNat 32) (le_antisymm ((Finset.fold_min_le _).2 (.inr ⟨best (row w b), Finset.mem_univ _, by simp⟩))
      ((Finset.le_fold_min _).2 ⟨(hlt _).le.trans (by norm_num), fun k _ => ?_⟩))
    split
    · rename_i h
      rcases best_spec (row w b) k with g | g
      · exact absurd g (by rw [h]; exact lt_irrefl _)
      · exact g.2
    · exact (hlt _).le
  · rw [apply_ite (· < 2147483648)]
    exact if h : _ then by rw [if_pos h]; exact (hlt k).trans (by norm_num) else by rw [if_neg h]; norm_num

theorem sum1_at (w : FVec Ideal S16x20000 .f32) (b : Fin 16) : sum1 w (ix1 b) = ∑ k, w (ix2 b k) := by
  pointwise [sum1]

theorem ofNat_inj (i j : Fin 20000) : BitVec.ofNat 32 i.val = BitVec.ofNat 32 j.val ↔ i = j := by
  refine ⟨fun h => Fin.ext ?_, fun h => by rw [h]⟩
  have := congrArg BitVec.toNat h
  rwa [BitVec.toNat_ofNat, BitVec.toNat_ofNat, Nat.mod_eq_of_lt (i.isLt.trans (by decide)),
    Nat.mod_eq_of_lt (j.isLt.trans (by decide))] at this

theorem hot_at {α : Type} (w : FVec Ideal S16x20000 .f32) (b : Fin 16) (j : Fin 20000) (u v : α) :
    Scalar.select (hot w (ix2 b j)) u v = if j = best (row w b) then u else v := by
  pointwise [hot, along, lin]
  rw [pos_at]
  have hc : IntOp.cmpi .eq (BitVec.ofNat 32 j.val) (BitVec.ofNat 32 (best (row w b)).val) = if j = best (row w b) then 1#1 else 0#1 := by
    by_cases h : j = best (row w b)
    · rw [if_pos h, h]; simp [IntOp.cmpi]
    · rw [if_neg h]
      exact congrArg BitVec.ofBool (beq_eq_false_iff_ne.2 fun e => h ((ofNat_inj _ _).1 e))
  rw [hc]
  by_cases h : j = best (row w b)
  · rw [if_pos h, if_pos h]; rfl
  · rw [if_neg h, if_neg h]; rfl

theorem ext_at (a w : FVec Ideal S16x20000 .f32) (b : Fin 16) : ext a w (ix1 b) = row a b (best (row w b)) := by
  rw [ext, sum1_at]
  pointwise [lit]
  simp only [hot_at]
  rw [Finset.sum_ite_eq' Finset.univ (best (row w b)), if_pos (Finset.mem_univ _)]
  rfl

theorem row_drop (w : FVec Ideal S16x20000 .f32) (b : Fin 16) : row (drop w) b = hide (row w b) := by
  funext j
  unfold row
  pointwise [drop, lit]
  rw [hot_at, Lits.ninf]
  rfl

theorem row_work (w : FVec Ideal S16x20000 .f32) (b : Fin 16) (n : Nat) : row (work w n) b = hid (row w b) n := by
  induction n with
  | zero => rfl
  | succ n ih => rw [work, row_drop, ih]; rfl

theorem row_supp (x y w : FVec Ideal S16x20000 .f32) (b : Fin 16) : row (supp x y w) b = thin (row x b) (row y b) (row w b) := by
  funext j
  unfold row
  pointwise [supp, near, sq, lit, along]
  simp only [ext_at]
  rw [Lits.ninf, Lits.eps, Lits.four]
  rfl

theorem row_left (x y w : FVec Ideal S16x20000 .f32) (b : Fin 16) (n : Nat) :
    row (left x y w n) b = thinned (row x b) (row y b) (row w b) n := by
  induction n with
  | zero => rfl
  | succ n ih => rw [left, row_supp, ih]; rfl

end Cert.Proof.Ker

end
-- ==== Proof.KerAt.lean ====
module

public import proofs.«01_k».proof.Proof.KerRead

@[expose] public section

noncomputable section

/-! The kernel's losses and distances, read at one place. -/

namespace Cert.Proof.Ker

open Cert.KernelIdeal Cert.KernelIdeal.Gen Idealize.ShloMosaic Idealize.ShloMosaic.TcCoe Idealize.SL.Sem Cert.Proof.Rows

variable (x y s z : FVec Ideal S16x20000 .f32) (p q : FVec Ideal S16 .f32) (b : Fin 16)

theorem sm_at (a p : FVec Ideal S16 .f32) : sm a p (ix1 b) = smoothAbs (a (ix1 b) - p (ix1 b)) := by
  pointwise [sm, lit1]
  rfl

theorem dist_at (u v p q : FVec Ideal S16 .f32) :
    dist u v p q (ix1 b) = Ideal.sqrt (gap (u (ix1 b)) (v (ix1 b)) (p (ix1 b)) (q (ix1 b))) := by
  pointwise [dist, lit1]
  rw [Lits.eps]
  rfl

theorem cgt_at (u v p q : FVec Ideal S16 .f32) :
    cgt u v p q (ix1 b) = cent (gap (u (ix1 b)) (v (ix1 b)) (p (ix1 b)) (q (ix1 b))) := by
  pointwise [cgt, lit1]
  rw [dist_at, Lits.two]
  rfl

theorem entropy_at (t v : FVec Ideal S16 .f32) : entropy t v (ix1 b) = Rows.entropy (t (ix1 b)) (v (ix1 b)) := by
  pointwise [entropy, clip, lit1]
  rfl

theorem pointSum_at (n : Nat) : pointSum x y s p q n (ix1 b) = ∑ k ∈ Finset.range n,
    (smoothAbs (row x b (nth (row s b) k) - p (ix1 b)) + smoothAbs (row y b (nth (row s b) k) - q (ix1 b))) := by
  induction n with
  | zero => pointwise [pointSum, lit1]; rw [Finset.sum_range_zero]
  | succ n ih =>
    rw [Finset.sum_range_succ, ← ih]
    pointwise [pointSum]
    rw [sm_at, sm_at, ext_at, ext_at, row_work, add_assoc]
    rfl

theorem rmax_work (hs : ∀ j, ⊥ < s j) (n : Nat) (hn : n < 20000) : rmax (work s n) (ix1 b) = row s b (nth (row s b) n) := by
  rw [rmax_at, row_work]
  exact hid_nth (row s b) (fun j => hs _) hn

theorem subLog_at (a r : FVec Ideal S16 .f32) : subf a (log (clip 0x3F7FFFFE#32 r)) (ix1 b)
    = a (ix1 b) + -Ideal.log (clamp (Ideal.ofBits .f32 0x3F7FFFFE#32) (r (ix1 b))) := by
  pointwise [clip, lit1]
  rw [sub_eq_add_neg]
  rfl

theorem subLogRest_at (a r : FVec Ideal S16 .f32) : subf a (log (clip 0x3F800000#32 (subf (lit1 0x3F800000#32) r))) (ix1 b)
    = a (ix1 b) + -Ideal.log (clamp 1 (1 - r (ix1 b))) := by
  pointwise [clip, lit1]
  rw [sub_eq_add_neg]
  rfl

theorem classSum_at (hs : ∀ j, ⊥ < s j) (n : Nat) (hn : n ≤ 20000) : classSum s n (ix1 b) = ∑ k ∈ Finset.range n,
    -Ideal.log (clamp (Ideal.ofBits .f32 0x3F7FFFFE#32) (row s b (nth (row s b) k))) := by
  induction n with
  | zero => pointwise [classSum, lit1]; rw [Finset.sum_range_zero]
  | succ n ih =>
    rw [Finset.sum_range_succ, ← ih (by omega)]
    rw [classSum, subLog_at, rmax_work s b hs n (by omega)]

theorem centSum_at (n : Nat) : centSum x y s z p q n (ix1 b) = ∑ k ∈ Finset.range n,
    -Rows.entropy (cent (gap (row x b (nth (row s b) k)) (row y b (nth (row s b) k)) (p (ix1 b)) (q (ix1 b))))
      (row z b (nth (row s b) k)) := by
  induction n with
  | zero => pointwise [centSum, lit1]; rw [Finset.sum_range_zero]
  | succ n ih =>
    rw [Finset.sum_range_succ, ← ih]
    pointwise [centSum]
    rw [entropy_at, cgt_at, ext_at, ext_at, ext_at, row_work, sub_eq_add_neg]
    rfl

theorem negTop_at (hs : ∀ j, ⊥ < s j) (n : Nat) (hn : n ≤ 20000) : negTop s n (ix1 b) = ∑ k ∈ Finset.range n,
    -Ideal.log (clamp 1 (1 - row s b (nth (row s b) k))) := by
  induction n with
  | zero => pointwise [negTop, lit1]; rw [Finset.sum_range_zero]
  | succ n ih =>
    rw [Finset.sum_range_succ, ← ih (by omega)]
    rw [negTop, subLogRest_at, rmax_work s b hs n (by omega)]

theorem negAll_at : sum1 (negAll s) (ix1 b) = ∑ j, -Ideal.log (clamp 1 (1 - row s b j)) := by
  rw [sum1_at]
  refine Finset.sum_congr rfl fun j _ => ?_
  pointwise [negAll, lit]
  rw [zero_sub]
  rfl

theorem loss_at : loss x y s z p q (ix1 b) = Ideal.div (pointSum x y s p q 10 (ix1 b)) (Ideal.ofBits .f32 0x41A00000#32)
    + Ideal.div (classSum s 10 (ix1 b)) (Ideal.ofBits .f32 0x41200000#32)
    + Ideal.div (centSum x y s z p q 10 (ix1 b)) (Ideal.ofBits .f32 0x41200000#32)
    + Ideal.div (sum1 (negAll s) (ix1 b) - negTop s 10 (ix1 b)) (Ideal.ofBits .f32 0x469C2C00#32) := by
  pointwise [loss, lit1]

end Cert.Proof.Ker

end
-- ==== Proof.Meet.lean ====
module

public import proofs.«01_k».proof.Proof.RefAt
public import proofs.«01_k».proof.Proof.KerAt

@[expose] public section

noncomputable section

/-! The kernel's values are the reference's. -/

namespace Cert.Proof.Meet

open Idealize.ShloMosaic Cert.Proof.Rows

theorem real_log (v : EReal) : ∃ r : ℝ, Ideal.log (clamp 1 v) = (r : EReal) := by
  have h0 : (0 : EReal) < clamp 1 v := by
    unfold clamp
    rw [Lits.low]
    exact lt_min (by norm_num) (lt_max_of_lt_left (EReal.coe_pos.2 (by norm_num)))
  have h1 : clamp 1 v ≤ 1 := min_le_left _ _
  generalize clamp 1 v = u at h0 h1
  induction u with
  | bot => exact absurd h0 (by decide)
  | top => exact absurd h1 (by decide)
  | coe r =>
    have hr : 0 < r := EReal.coe_pos.1 h0
    refine ⟨Real.log r, ?_⟩
    show (if r ≤ 0 then ⊥ else (Real.log r : EReal)) = _
    rw [if_neg (not_le.2 hr)]

theorem real_sum {ι : Type} (s : Finset ι) (f : ι → EReal) (h : ∀ i, ∃ r : ℝ, f i = (r : EReal)) : ∃ r : ℝ, ∑ i ∈ s, f i = (r : EReal) := by
  induction s using Finset.cons_induction with
  | empty => exact ⟨0, rfl⟩
  | cons a s ha ih =>
    obtain ⟨r, hr⟩ := ih
    obtain ⟨t, ht⟩ := h a
    exact ⟨t + r, by rw [Finset.sum_cons, hr, ht, EReal.coe_add]⟩

section
variable {N m : Nat} (L : Fin N → EReal) (c : Fin m → Fin N) (hc : Function.Injective c)
include hc

theorem sum_off (hL : ∀ j, ∃ r : ℝ, L j = (r : EReal)) :
    ∑ j, -L j - ∑ k, -L (c k) = ∑ j, -(if ∃ k, c k = j then (0 : EReal) else 1) * L j := by
  have h1 : ∀ j, -L j = -(if ∃ k, c k = j then (0 : EReal) else 1) * L j + (if j ∈ Finset.univ.image c then -L j else 0) := fun j => by
    by_cases h : ∃ k, c k = j
    · rw [if_pos h, if_pos (by simpa using h), neg_zero, zero_mul, zero_add]
    · rw [if_neg h, if_neg (by simpa using h), EReal.neg_mul, one_mul, add_zero]
  have h2 : ∑ k, -L (c k) = ∑ j, (if j ∈ Finset.univ.image c then -L j else 0) := by
    rw [Finset.sum_ite_mem, Finset.univ_inter, Finset.sum_image fun a _ b _ h => hc h]
  have h3 : ∑ j, -L j = ∑ j, -(if ∃ k, c k = j then (0 : EReal) else 1) * L j + ∑ k, -L (c k) := by
    rw [h2, ← Finset.sum_add_distrib]
    exact Finset.sum_congr rfl fun j _ => h1 j
  obtain ⟨r, hr⟩ := real_sum Finset.univ (fun k => -L (c k)) fun k => by
    obtain ⟨r, hr⟩ := hL (c k)
    exact ⟨-r, by rw [hr, EReal.coe_neg]⟩
  rw [h3, hr, EReal.add_sub_cancel_right]

theorem count_off : ∑ j, (if ∃ k, c k = j then (0 : EReal) else 1) = ((N - m : ℕ) : EReal) := by
  have h : ∀ j, (if ∃ k, c k = j then (0 : EReal) else 1) = if j ∉ Finset.univ.image c then 1 else 0 := fun j => by
    by_cases h : ∃ k, c k = j
    · rw [if_pos h, if_neg (by simpa using h)]
    · rw [if_neg h, if_pos (by simpa using h)]
  simp only [h]
  rw [Finset.sum_boole]
  congr 1
  rw [Finset.filter_not, Finset.filter_mem_eq_inter, Finset.univ_inter, Finset.card_sdiff_of_subset (Finset.subset_univ _),
    Finset.card_image_of_injective _ hc, Finset.card_univ, Finset.card_univ, Fintype.card_fin, Fintype.card_fin]

end

section
variable (x3 : Ref.T Ideal Cert.ReferenceIdeal.S16x20000x2 .f32) (s z : Ref.T Ideal Cert.ReferenceIdeal.S16x20000 .f32)
  (p : Ref.T Ideal Cert.ReferenceIdeal.S16x2 .f32)
  (x y : FVec Ideal Cert.KernelIdeal.S16x20000 .f32) (px py : FVec Ideal Cert.KernelIdeal.S16 .f32) (b : Fin 16)
  (hx : ∀ b, Ker.row x b = Ref.coord x3 0 b) (hy : ∀ b, Ker.row y b = Ref.coord x3 1 b)
  (hpx : ∀ b, px (ix1 b) = p (ix2 b 0)) (hpy : ∀ b, py (ix1 b) = p (ix2 b 1))
include hx hy

theorem thinned_eq (n : Nat) : Ker.row (Ker.left x y s n) b = Ref.row (Ref.left x3 s n) b := by
  rw [Ker.row_left, Ref.row_left, hx, hy]; rfl

/-- The place kept by step `n`. -/
theorem pos_eq (n : Nat) : Ker.pos (Ker.left x y s n) (ix1 b) = Ref.arg (Ref.left x3 s n) (ix1 b) := by
  rw [Ker.pos_at, Ref.arg_at, thinned_eq x3 s x y b hx hy]

/-- The probability kept by step `n`. -/
theorem prob_eq (n : Nat) : Ker.ext s (Ker.left x y s n) (ix1 b) = Ref.at1 s (Ref.arg (Ref.left x3 s n)) (ix1 b) := by
  rw [Ker.ext_at, Ref.at1_at b _ s _ (Ref.arg_at _ b), thinned_eq x3 s x y b hx hy]; rfl

include hpx hpy

theorem dist_eq : Ker.dist (Ker.ext x s) (Ker.ext y s) px py (ix1 b)
    = (Host.sqrt (Ref.disp (Ref.pt1 x3 (Ref.arg s)) p) : Ref.T Ideal Cert.ReferenceIdeal.S16 .f32) (ix1 b) := by
  rw [Ker.dist_at, Ker.ext_at, Ker.ext_at, hx, hy, hpx, hpy]
  pointwise
  rw [Ref.disp_at, Ref.pt1_at b _ x3 _ 0 (Ref.arg_at s b), Ref.pt1_at b _ x3 _ 1 (Ref.arg_at s b)]
  rfl

theorem loss_eq (hs : ∀ j, ⊥ < s j) : Ker.loss x y s z px py (ix1 b) = Ref.loss x3 s z p (ix1 b) := by
  have hN : ∀ n, n ≤ 10 → n ≤ 20000 := fun n h => h.trans (by norm_num)
  have ht := fun k => Ref.top_at s hs b k
  have hinj : Function.Injective fun k : Fin 10 => nth (Ref.row s b) k.val := fun a c h =>
    Fin.ext (nth_inj _ (fun _ => hs _) (a.isLt.trans (by norm_num)) (c.isLt.trans (by norm_num)) h)
  rw [Ker.loss_at, Ker.pointSum_at, Ker.classSum_at s b hs 10 (by norm_num), Ker.centSum_at,
    Ker.negTop_at s b hs 10 (by norm_num), Ker.negAll_at, hx, hy, hpx, hpy]
  simp only [Finset.sum_range]
  have e1 : Ref.smooth (Ref.pts10 x3 (Ref.top s)) p (ix1 b) = _ := Ref.smooth_at _ _ _
  have e2 : Ref.mean10 (Host.negf (addf (Ref.onePos (Ref.at10 s (Ref.top s))) (mulf (Ref.rows10 (Ref.noOnes (F := Ideal)))
      (Ref.oneNeg (Ref.at10 s (Ref.top s)))) : Ref.T Ideal Cert.ReferenceIdeal.S16x10 .f32)) (ix1 b) = _ := Ref.mean10_at _ _
  have e3 : Ref.bce (Ref.at10 z (Ref.top s)) (Ref.at10 (Ref.centGt x3 p) (Ref.top s)) (ix1 b) = _ := Ref.bce_at _ _ _
  have e4 : Ref.negLoss s (Ref.top s) (ix1 b) = _ := Ref.negLoss_at _ _ _
  have hm := Ref.negMask_at (Ref.top s) b _ ht
  simp only [Ref.class_at, Ref.pts10_at b _ x3 _ _ _ (ht _), Ref.at10_at b _ _ _ _ (ht _), hm] at e1 e2 e3 e4
  rw [← sum_off (fun j => Ideal.log (clamp 1 (1 - Ref.row s b j))) _ hinj fun j => real_log _, count_off _ hinj] at e4
  have hg : ∀ n, Ref.row (Ref.centGt x3 p) b n = _ := Ref.centGt_at x3 p b
  simp only [hg] at e3
  have e : Ref.loss x3 s z p (ix1 b) = Ref.mean10 (Host.negf (addf (Ref.onePos (Ref.at10 s (Ref.top s)))
      (mulf (Ref.rows10 (Ref.noOnes (F := Ideal))) (Ref.oneNeg (Ref.at10 s (Ref.top s)))) : Ref.T Ideal Cert.ReferenceIdeal.S16x10 .f32)) (ix1 b)
      + Ref.negLoss s (Ref.top s) (ix1 b) + Ref.smooth (Ref.pts10 x3 (Ref.top s)) p (ix1 b)
      + Ref.bce (Ref.at10 z (Ref.top s)) (Ref.at10 (Ref.centGt x3 p) (Ref.top s)) (ix1 b) := rfl
  have hcount : Ideal.ofBits .f32 0x469C2C00#32 = ((20000 - 10 : ℕ) : EReal) := by
    rw [Lits.rest, show 20000 - 10 = 19990 by norm_num, ← EReal.coe_coe_eq_natCast]
    norm_num
  rw [e, e1, e2, e3, e4, hcount, show Ker.row s b = Ref.row s b from rfl, show Ker.row z b = Ref.row z b from rfl]
  abel

end

end Cert.Proof.Meet

end
-- ==== Proof.Lanes.lean ====
module

public import proofs.«01_k».proof.Proof.Meet

@[expose] public section

noncomputable section

/-! The lanes of the results. -/

namespace Cert.Proof.Ker

open Cert.KernelIdeal Cert.KernelIdeal.Gen Idealize.ShloMosaic Idealize.ShloMosaic.TcCoe Idealize.SL.Sem

theorem select_lane {α : Type} (i k : Nat) (hi : i < 16) (hk : k < 16) (u v : α) :
    Scalar.select (IntOp.cmpi .eq (BitVec.ofNat 32 i) (BitVec.ofNat 32 k)) u v = if i = k then u else v := by
  by_cases h : i = k
  · subst h; simp [IntOp.cmpi, Scalar.select]
  · rw [if_neg h]
    have hc : IntOp.cmpi .eq (BitVec.ofNat 32 i) (BitVec.ofNat 32 k) = 0#1 :=
      congrArg BitVec.ofBool (beq_eq_false_iff_ne.2 fun g => h (by
        have := congrArg BitVec.toNat g
        rwa [BitVec.toNat_ofNat, BitVec.toNat_ofNat, Nat.mod_eq_of_lt (by omega), Nat.mod_eq_of_lt (by omega)] at this))
    rw [hc]; rfl

theorem put_at (k : Nat) (hk : k < 8) (v : FVec Ideal S16 .f32) (b : Fin 16) (j : Fin 8) :
    put (BitVec.ofNat 32 k) v (ix2 b j) = if j.val = k then v (ix1 b) else 0 := by
  pointwise [put]
  exact select_lane _ _ (by omega) (by omega) _ _

theorem putRow_at (k : Nat) (hk : k < 16) (v : IVec S16 32) (j b : Fin 16) :
    putRow (BitVec.ofNat 32 k) v (ix2 j b) = if j.val = k then v (ix1 b) else 0#32 := by
  pointwise [putRow]
  exact select_lane _ _ (by omega) (by omega) _ _

/-- Where lane `j` of `put k` is `v k` for `j = k` and nought otherwise, lane `j` of the whole is `v j`. -/
theorem place_at (put : BitVec 32 → IVec S16 32 → IVec S16x16 32) (v : Nat → IVec S16 32) (b j : Fin 16) (i : S16x16.Idx)
    (hput : ∀ k < 16, ∀ v, put (BitVec.ofNat 32 k) v i = if j.val = k then v (ix1 b) else 0#32) (n : Nat) (hn : n ≤ 16) :
    place put v n i = if j.val < n then v j.val (ix1 b) else 0#32 := by
  induction n with
  | zero => rfl
  | succ n ih =>
    show place put v n i + put (BitVec.ofNat 32 n) (v n) i = _
    rw [ih (by omega), hput n (by omega)]
    by_cases h : j.val < n
    · rw [if_pos h, if_neg (by omega), if_pos (by omega), BitVec.add_zero]
    · by_cases e : j.val = n
      · rw [if_neg h, if_pos e, if_pos (by omega), BitVec.zero_add, e]
      · rw [if_neg h, if_neg e, if_neg (by omega), BitVec.add_zero]

theorem scal_at (x y s z : FVec Ideal S16x20000 .f32) (p q : FVec Ideal S16 .f32) (b : Fin 16) (j : Fin 8) :
    scal x y s z p q 6 (ix2 b j) = if j.val = 0 then loss x y s z p q (ix1 b)
      else if j.val = 1 then dist (ext x (mulf s z)) (ext y (mulf s z)) p q (ix1 b)
      else ext (mulf s z) (left x y (mulf s z) (j.val - 2)) (ix1 b) := by
  have h0 : ∀ n, scal x y s z p q (n + 1) (ix2 b j) = scal x y s z p q n (ix2 b j)
      + put (BitVec.ofNat 32 (n + 2)) (ext (mulf s z) (left x y (mulf s z) n)) (ix2 b j) := fun _ => rfl
  have h1 : scal x y s z p q 0 (ix2 b j) = put (BitVec.ofNat 32 0) (loss x y s z p q) (ix2 b j)
      + put (BitVec.ofNat 32 1) (dist (ext x (mulf s z)) (ext y (mulf s z)) p q) (ix2 b j) := rfl
  rw [h0, h0, h0, h0, h0, h0, h1]
  rw [put_at _ (by omega), put_at _ (by omega), put_at _ (by omega), put_at _ (by omega), put_at _ (by omega), put_at _ (by omega),
    put_at _ (by omega), put_at _ (by omega)]
  generalize loss x y s z p q (ix1 b) = l
  generalize dist (ext x (mulf s z)) (ext y (mulf s z)) p q (ix1 b) = d
  fin_cases j <;> simp

end Cert.Proof.Ker

namespace Cert.Proof.Ref

open Cert.ReferenceIdeal Cert.ReferenceIdeal.Gen Idealize.ShloMosaic Idealize.ShloMosaic.TcCoe Idealize.SL.Sem
  Idealize.ShloMosaic.StableHlo

theorem kept_at (x : T Ideal S16x20000x2 .f32) (s : T Ideal S16x20000 .f32) (n : Fin 6) (b : Fin 16) :
    kept x s (ix2 n b) = arg (left x s n.val) (ix1 b) := by
  pointwise [kept, stackI, rowI]
  fin_cases n <;> rfl

theorem probs_at (x : T Ideal S16x20000x2 .f32) (s : T Ideal S16x20000 .f32) (n : Fin 6) (b : Fin 16) :
    probs x s (ix2 n b) = at1 s (arg (left x s n.val)) (ix1 b) := by
  pointwise [probs, stackF, rowF]
  fin_cases n <;> rfl

end Cert.Proof.Ref

end
-- ==== Proof.Gath.lean ====
module

public import proofs.«01_k».proof.Proof.Lanes
public import Idealize.ShloMosaic.Lib.Pipeline.ValueKit.Tiles

@[expose] public section

noncomputable section

/-! The second call's block: the picked trajectories of one sample. -/

namespace Cert.Proof.Ker

open Cert.KernelIdeal Cert.KernelIdeal.Gen Idealize.ShloMosaic Idealize.ShloMosaic.TcCoe Idealize.SL.Sem

variable {F : FTy → Type} [FloatOps F]

theorem inb_in (t : Fin 30) : ∀ a : Fin S1x30x2x20000.rank, (![0, t.val, 0, 0] : Fin 4 → Nat) a + S1x1x2x20000.size a ≤ S1x30x2x20000.size a := by
  revert t; decide

theorem inb_out (t : Fin 30) : ∀ a : Fin S1x16x30x2.rank, (![0, 0, t.val, 0] : Fin 4 → Nat) a + S1x16x1x2.size a ≤ S1x16x30x2.size a := by
  revert t; decide

/-- The part of the block at time `t`, of the table and of the result. -/
abbrev rin (t : Fin 30) : Rect S1x30x2x20000 := Rect.unit (s := S1x30x2x20000) ![0, t.val, 0, 0] S1x1x2x20000.size (inb_in t)
abbrev rout (t : Fin 30) : Rect S1x16x30x2 := Rect.unit (s := S1x16x30x2) ![0, 0, t.val, 0] S1x16x1x2.size (inb_out t)

/-- The marked points' two coordinates at one time. -/
def step (v : FVec F S16x20000 .f32) (w : Vec F S1x1x2x20000 .f32) : FVec F S1x16x1x2 .f32 :=
  shapeCast S1x16x1x2 (matmul dot_S16x20000_S2x20000_S16x2_1_1_0_0_n_n none v (shapeCast S2x20000 w shapeCasts_S1x1x2x20000_S2x20000)
    (constant S16x2 .f32 0x00000000#32)) shapeCasts_S16x2_S1x16x1x2

theorem out_steps (i : grid1.Coords) (x0 : Vec F S16x16 .i32) (x1 : Vec F S1x30x2x20000 .f32) :
    out1_2 i x0 x1 = View.canon (List.ofFn fun k : Fin 30 =>
      (⟨rout k.rev, step (k1_pay3 i (View.ld x0 r1_0)) (View.ld x1 (rin k.rev))⟩ : View.Piece (Elt F) S1x16x30x2 .f32)) := rfl

theorem rout_apart (k k' : Fin 30) (h : k ≠ k') : Disjoint (rout k).set (rout k').set := by
  rw [Finset.disjoint_left]
  intro y hy hy'
  have e := Rect.mem_set_unit.mp hy 2
  have e' := Rect.mem_set_unit.mp hy' 2
  refine h (Fin.ext ?_)
  have a : k.val ≤ (y 2).val ∧ (y 2).val < k.val + 1 := e
  have a' : k'.val ≤ (y 2).val ∧ (y 2).val < k'.val + 1 := e'
  omega

theorem out_at (i : grid1.Coords) (x0 : Vec F S16x16 .i32) (x1 : Vec F S1x30x2x20000 .f32) (j : Fin 16) (t : Fin 30) (d : Fin 2) :
    out1_2 i x0 x1 (ix4 0 j t d) = step (k1_pay3 i (View.ld x0 r1_0)) (View.ld x1 (rin t)) (ix4 0 j 0 d) := by
  rw [out_steps]
  obtain ⟨k, rfl⟩ : ∃ k : Fin 30, k.rev = t := ⟨t.rev, Fin.rev_rev t⟩
  have h := View.canon_ofFn_emb_of_disjoint (Val := Elt F) (e := .f32) (fun k : Fin 30 => rout k.rev)
    (fun k => (show (rout k.rev).shape.Idx → Elt F .f32 from step (k1_pay3 i (View.ld x0 r1_0)) (View.ld x1 (rin k.rev))))
    (fun k k' hk => rout_apart _ _ fun e => hk (Fin.rev_injective e)) k (ix4 0 j 0 d)
  refine Eq.trans (congrArg _ ?_) h
  funext a; apply Fin.ext
  fin_cases a <;> simp [Rect.emb_apply, ix4]

theorem step_at (v : FVec Ideal S16x20000 .f32) (x1 : Vec Ideal S1x30x2x20000 .f32) (j : Fin 16) (t : Fin 30) (d : Fin 2) :
    step v (View.ld x1 (rin t)) (ix4 0 j 0 d) = ∑ n : Fin 20000, v (ix2 j n) * x1 (ix4 0 t d n) := by
  pointwise [step]

/-- A sum of words all nought but one is that one. -/
theorem fold_one {n : Nat} (t : Finset (Fin n)) (i : Fin n) (f : Fin n → BitVec 32) (h : ∀ x, x ≠ i → f x = 0#32) :
    t.fold IntOp.addi 0#32 f = if i ∈ t then f i else 0#32 := by
  induction t using Finset.cons_induction with
  | empty => simp
  | cons a t ha ih =>
    rw [Finset.fold_cons, ih]
    show f a + _ = _
    by_cases e : a = i
    · subst e
      rw [if_neg ha, if_pos (Finset.mem_cons_self _ _), BitVec.add_zero]
    · rw [h a e, BitVec.zero_add]
      simp only [Finset.mem_cons, Ne.symm e, false_or]

/-- Row `j` marks the lane that the word of sample `b` names. -/
theorem mark_at (i : grid1.Coords) (b : Fin 16) (hb : (i 0).val = b.val) (x0 : Vec Ideal S16x16 .i32) (j : Fin 16) (n : Fin 20000) :
    k1_pay3 (F := Ideal) i (View.ld x0 r1_0) (ix2 j n) = if BitVec.ofNat 32 n.val = x0 (ix2 j b) then 1 else 0 := by
  pointwise [k1_pay3]
  have h1 : Finset.univ.fold IntOp.addi 0#32 (fun x : Fin 16 => Scalar.select (IntOp.cmpi .eq (BitVec.ofNat 32 x.val)
      (BitVec.ofNat 32 (i 0).val)) (x0 (ix2 j x)) 0#32) = x0 (ix2 j b) := by
    rw [hb, fold_one Finset.univ b _ (fun x hx => by
      rw [select_lane _ _ x.isLt b.isLt, if_neg (fun e => hx (Fin.ext e))]), if_pos (Finset.mem_univ _),
      select_lane _ _ b.isLt b.isLt, if_pos rfl]
  refine Eq.trans (congrArg (fun w => FloatOps.sitofp (F := Ideal) .f32
    (BitVec.setWidth 32 (IntOp.cmpi .eq (BitVec.ofNat 32 n.val) w))) h1) ?_
  have hf : ∀ v : BitVec 1, FloatOps.sitofp (F := Ideal) .f32 (BitVec.setWidth 32 v) = if v = 1#1 then 1 else 0 := by
    intro v
    have hv : v = 0#1 ∨ v = 1#1 := by revert v; decide
    rcases hv with rfl | rfl
    · show (((BitVec.setWidth 32 0#1).toInt : ℝ) : EReal) = _
      rw [if_neg (by decide)]; simp
    · show (((BitVec.setWidth 32 1#1).toInt : ℝ) : EReal) = _
      rw [if_pos rfl, show (BitVec.setWidth 32 1#1).toInt = 1 from by decide]; simp
  refine (hf _).trans ?_
  by_cases h : BitVec.ofNat 32 n.val = x0 (ix2 j b)
  · rw [if_pos h, h, if_pos (by simp [IntOp.cmpi])]
  · rw [if_neg h, show IntOp.cmpi .eq (BitVec.ofNat 32 n.val) (x0 (ix2 j b)) = 0#1 from
      congrArg BitVec.ofBool (beq_eq_false_iff_ne.2 h), if_neg (by decide)]

/-- The gathered row: the trajectory of the lane the word names. -/
theorem rows_at (i : grid1.Coords) (b : Fin 16) (hb : (i 0).val = b.val) (x0 : Vec Ideal S16x16 .i32) (x1 : Vec Ideal S1x30x2x20000 .f32)
    (j : Fin 16) (t : Fin 30) (d : Fin 2) (n : Fin 20000) (h : x0 (ix2 j b) = BitVec.ofNat 32 n.val) :
    out1_2 (F := Ideal) i x0 x1 (ix4 0 j t d) = x1 (ix4 0 t d n) := by
  rw [out_at, step_at, Finset.sum_eq_single n]
  · rw [mark_at i b hb, if_pos h.symm, one_mul]
  · intro k _ hk
    rw [mark_at i b hb, if_neg, zero_mul]
    rw [h]
    intro e
    have := congrArg BitVec.toNat e
    rw [BitVec.toNat_ofNat, BitVec.toNat_ofNat, Nat.mod_eq_of_lt (by omega), Nat.mod_eq_of_lt (by omega)] at this
    exact hk (Fin.ext this)
  · intro hn; exact absurd (Finset.mem_univ _) hn

end Cert.Proof.Ker

end
-- ==== Proof.Arrays.lean ====
module

public import proofs.«01_k».proof.Proof.Gath
public import Idealize.ShloMosaic.Lib.Pipeline.Value

@[expose] public section

noncomputable section

/-! The arrays after each of the three calls. -/

namespace Cert.Proof.Ker

open Cert.KernelIdeal Cert.KernelIdeal.Gen Idealize.ShloMosaic Idealize.ShloMosaic.TcCoe Idealize.SL.Sem

variable {F : FTy → Type} [FloatOps F]

/-- The one point of the first call's grid, and of the last's. -/
abbrev t0 : Fin cfg0.N := ⟨0, by decide⟩
abbrev t2 : Fin cfg2.N := ⟨0, by decide⟩

/-! Every window of those is its whole array, so a block's index is the array's. -/

theorem whole_index {n : Nat} (a j : Nat) (h : a = 0) : a * n + 1 * j = j := by rw [h, Nat.zero_mul, Nat.zero_add, Nat.one_mul]

theorem emb0_0 (j : S16x20000.Idx) : ((cfg0.win 0).blk t0).view.emb j = j := by
  funext a; apply Fin.ext
  fin_cases a <;> exact whole_index _ _ rfl

theorem emb0_1 (j : S16x20000.Idx) : ((cfg0.win 1).blk t0).view.emb j = j := by
  funext a; apply Fin.ext
  fin_cases a <;> exact whole_index _ _ rfl

theorem emb0_2 (j : S16x20000.Idx) : ((cfg0.win 2).blk t0).view.emb j = j := by
  funext a; apply Fin.ext
  fin_cases a <;> exact whole_index _ _ rfl

theorem emb0_3 (j : S16x20000.Idx) : ((cfg0.win 3).blk t0).view.emb j = j := by
  funext a; apply Fin.ext
  fin_cases a <;> exact whole_index _ _ rfl

theorem emb0_4 (j : S16x2.Idx) : ((cfg0.win 4).blk t0).view.emb j = j := by
  funext a; apply Fin.ext
  fin_cases a <;> exact whole_index _ _ rfl

theorem emb0_5 (j : S16x8.Idx) : ((cfg0.win 5).blk t0).view.emb j = j := by
  funext a; apply Fin.ext
  fin_cases a <;> exact whole_index _ _ rfl

theorem emb0_6 (j : S16x16.Idx) : ((cfg0.win 6).blk t0).view.emb j = j := by
  funext a; apply Fin.ext
  fin_cases a <;> exact whole_index _ _ rfl

theorem emb2_0 (j : S16x16x30x2.Idx) : ((cfg2.win 0).blk t2).view.emb j = j := by
  funext a; apply Fin.ext
  fin_cases a <;> exact whole_index _ _ rfl

theorem emb2_1 (j : S16x30x2.Idx) : ((cfg2.win 1).blk t2).view.emb j = j := by
  funext a; apply Fin.ext
  fin_cases a <;> exact whole_index _ _ rfl

theorem emb2_2 (j : S16x8.Idx) : ((cfg2.win 2).blk t2).view.emb j = j := by
  funext a; apply Fin.ext
  fin_cases a <;> exact whole_index _ _ rfl

theorem emb2_3 (j : S1x1.Idx) : ((cfg2.win 3).blk t2).view.emb j = j := by
  funext a; apply Fin.ext
  fin_cases a <;> exact whole_index _ _ rfl

section
variable (V : (c : Dev nD) → (b : Ref sig .tc) → Buf (Elt F) ((c : Thread nD τ).loc b)) (c : Dev nD)

theorem iblk0_0_eq : iblk0 V c 0 t0 = V c main_v5 := by
  funext j; show V c main_v5 (((cfg0.win 0).blk t0).view.emb j) = V c main_v5 j; rw [emb0_0]

theorem iblk0_1_eq : iblk0 V c 1 t0 = V c main_v11 := by
  funext j; show V c main_v11 (((cfg0.win 1).blk t0).view.emb j) = V c main_v11 j; rw [emb0_1]

theorem iblk0_2_eq : iblk0 V c 2 t0 = V c main_arg1 := by
  funext j; show V c main_arg1 (((cfg0.win 2).blk t0).view.emb j) = V c main_arg1 j; rw [emb0_2]

theorem iblk0_3_eq : iblk0 V c 3 t0 = V c main_arg3 := by
  funext j; show V c main_arg3 (((cfg0.win 3).blk t0).view.emb j) = V c main_arg3 j; rw [emb0_3]

theorem iblk0_4_eq : iblk0 V c 4 t0 = V c main_v13 := by
  funext j; show V c main_v13 (((cfg0.win 4).blk t0).view.emb j) = V c main_v13 j; rw [emb0_4]

theorem iblk2_0_eq : iblk2 V c 0 t2 = V c main_v16 := by
  funext j; show V c main_v16 (((cfg2.win 0).blk t2).view.emb j) = V c main_v16 j; rw [emb2_0]

theorem iblk2_1_eq : iblk2 V c 1 t2 = V c main_arg4 := by
  funext j; show V c main_arg4 (((cfg2.win 1).blk t2).view.emb j) = V c main_arg4 j; rw [emb2_1]

theorem iblk2_2_eq : iblk2 V c 2 t2 = V c main_v14_0 := by
  funext j; show V c main_v14_0 (((cfg2.win 2).blk t2).view.emb j) = V c main_v14_0 j; rw [emb2_2]

theorem apart0_5 : ∀ t t' : Fin cfg0.N, (cfg0.win 5).flush t = true → (cfg0.win 5).flush t' = true → t ≠ t' →
    Disjoint ((cfg0.win 5).blk t).view.set ((cfg0.win 5).blk t').view.set :=
  fun t t' _ _ h => absurd ((by decide : ∀ t t' : Fin grid0.N, t = t') t t') h

theorem final0_5 : (dat0 V c).arrAt 5 cfg0.N = out0_5 (V c main_v5) (V c main_v11) (V c main_arg1) (V c main_arg3) (V c main_v13) := by
  funext y
  have h := congrFun ((dat0 V c).read_blk_arrAt_eq_flushed 5 apart0_5 cfg0.N t0 t0.isLt rfl) y
  have h' : (dat0 V c).arrAt 5 cfg0.N (((cfg0.win 5).blk t0).view.emb y)
      = (cfg0.win 5).cut (grid0.coords t0) ((dat0 V c).after 5 t0) y := h
  rw [emb0_5, after0_5, iblk0_0_eq, iblk0_1_eq, iblk0_2_eq, iblk0_3_eq, iblk0_4_eq] at h'
  exact h'

theorem apart0_6 : ∀ t t' : Fin cfg0.N, (cfg0.win 6).flush t = true → (cfg0.win 6).flush t' = true → t ≠ t' →
    Disjoint ((cfg0.win 6).blk t).view.set ((cfg0.win 6).blk t').view.set :=
  fun t t' _ _ h => absurd ((by decide : ∀ t t' : Fin grid0.N, t = t') t t') h

theorem final0_6 : (dat0 V c).arrAt 6 cfg0.N = out0_6 (V c main_v5) (V c main_v11) (V c main_arg1) (V c main_arg3) (V c main_v13) := by
  funext y
  have h := congrFun ((dat0 V c).read_blk_arrAt_eq_flushed 6 apart0_6 cfg0.N t0 t0.isLt rfl) y
  have h' : (dat0 V c).arrAt 6 cfg0.N (((cfg0.win 6).blk t0).view.emb y)
      = (cfg0.win 6).cut (grid0.coords t0) ((dat0 V c).after 6 t0) y := h
  rw [emb0_6, after0_6, iblk0_0_eq, iblk0_1_eq, iblk0_2_eq, iblk0_3_eq, iblk0_4_eq] at h'
  exact h'

theorem apart2_3 : ∀ t t' : Fin cfg2.N, (cfg2.win 3).flush t = true → (cfg2.win 3).flush t' = true → t ≠ t' →
    Disjoint ((cfg2.win 3).blk t).view.set ((cfg2.win 3).blk t').view.set :=
  fun t t' _ _ h => absurd ((by decide : ∀ t t' : Fin grid2.N, t = t') t t') h

theorem final2_3 : (dat2 V c).arrAt 3 cfg2.N = out2_3 (V c main_v16) (V c main_arg4) (V c main_v14_0) := by
  funext y
  have h := congrFun ((dat2 V c).read_blk_arrAt_eq_flushed 3 apart2_3 cfg2.N t2 t2.isLt rfl) y
  have h' : (dat2 V c).arrAt 3 cfg2.N (((cfg2.win 3).blk t2).view.emb y)
      = (cfg2.win 3).cut (grid2.coords t2) ((dat2 V c).after 3 t2) y := h
  rw [emb2_3, after2_3, iblk2_0_eq, iblk2_1_eq, iblk2_2_eq] at h'
  exact h'

/-! The second call's grid has a point for each sample. -/

abbrev pt (b : Fin 16) : Fin cfg1.N := ⟨b.val, lt_of_lt_of_eq b.isLt (by decide : 16 = grid1.N)⟩

theorem pt_coord (b : Fin 16) : (grid1.coords (pt b) 0).val = b.val := by
  revert b; decide

theorem pt_flush (b : Fin 16) : (cfg1.win 2).flush (pt b) = true := by
  revert b; decide +kernel

theorem apart1_2 : ∀ t t' : Fin cfg1.N, (cfg1.win 2).flush t = true → (cfg1.win 2).flush t' = true → t ≠ t' →
    Disjoint ((cfg1.win 2).blk t).view.set ((cfg1.win 2).blk t').view.set :=
  fun t t' _ _ hne => (cfg1.win 2).disjoint_blk fun h =>
    hne ((by decide +kernel : ∀ t t' : Fin grid1.N, win1_2.index t = win1_2.index t' → t = t') t t' h)

theorem index1 (b : Fin 16) : win1_1.index (pt b) = ![b.val, 0, 0, 0] ∧ win1_2.index (pt b) = ![b.val, 0, 0, 0] := by
  revert b; decide +kernel

theorem emb1_0 (b : Fin 16) (j : S16x16.Idx) : ((cfg1.win 0).blk (pt b)).view.emb j = j := by
  funext a; apply Fin.ext
  fin_cases a <;> exact whole_index _ _ rfl

theorem block_index {n : Nat} (a b j : Nat) (h : a = b) : a * n + 1 * j = b * n + j := by rw [h, Nat.one_mul]

theorem emb1_1 (b : Fin 16) (t : Fin 30) (d : Fin 2) (n : Fin 20000) :
    ((cfg1.win 1).blk (pt b)).view.emb (ix4 0 t d n) = ix4 b t d n := by
  funext a; apply Fin.ext
  fin_cases a
  · exact (block_index _ _ _ (congrFun (index1 b).1 0)).trans (Nat.mul_one _)
  · exact whole_index _ _ (congrFun (index1 b).1 1)
  · exact whole_index _ _ (congrFun (index1 b).1 2)
  · exact whole_index _ _ (congrFun (index1 b).1 3)

theorem emb1_2 (b j : Fin 16) (t : Fin 30) (d : Fin 2) : ((cfg1.win 2).blk (pt b)).view.emb (ix4 0 j t d) = ix4 b j t d := by
  funext a; apply Fin.ext
  fin_cases a
  · exact (block_index _ _ _ (congrFun (index1 b).2 0)).trans (Nat.mul_one _)
  · exact whole_index _ _ (congrFun (index1 b).2 1)
  · exact whole_index _ _ (congrFun (index1 b).2 2)
  · exact whole_index _ _ (congrFun (index1 b).2 3)

theorem iblk1_0_eq (b : Fin 16) : iblk1 V c 0 (pt b) = V c main_v14_1 := by
  funext j; show V c main_v14_1 (((cfg1.win 0).blk (pt b)).view.emb j) = V c main_v14_1 j; rw [emb1_0]

theorem iblk1_1_at (b : Fin 16) (t : Fin 30) (d : Fin 2) (n : Fin 20000) :
    (iblk1 V c 1 (pt b) : S1x30x2x20000.Idx → Elt F .f32) (ix4 0 t d n) = V c main_v15 (ix4 b t d n) := by
  show V c main_v15 (((cfg1.win 1).blk (pt b)).view.emb (ix4 0 t d n)) = _; rw [emb1_1]

theorem final1_2 (b j : Fin 16) (t : Fin 30) (d : Fin 2) : (dat1 V c).arrAt 2 cfg1.N (ix4 b j t d)
    = out1_2 (grid1.coords (pt b)) (V c main_v14_1) (iblk1 V c 1 (pt b)) (ix4 0 j t d) := by
  have h := congrFun ((dat1 V c).read_blk_arrAt_eq_flushed 2 apart1_2 cfg1.N (pt b) (pt b).isLt (pt_flush b)) (ix4 0 j t d)
  have h' : (dat1 V c).arrAt 2 cfg1.N (((cfg1.win 2).blk (pt b)).view.emb (ix4 0 j t d))
      = (cfg1.win 2).cut (grid1.coords (pt b)) ((dat1 V c).after 2 (pt b)) (ix4 0 j t d) := h
  rw [emb1_2, after1_2, iblk1_0_eq] at h'
  exact h'

end

end Cert.Proof.Ker

end
-- ==== Proof.Run.lean ====
module

public import proofs.«01_k».proof.Proof.Arrays

@[expose] public section

noncomputable section

/-! The kernel's run: its four results, named from its arguments. -/

namespace Cert.Proof.Ker

open Cert.KernelIdeal Cert.KernelIdeal.Gen Idealize.ShloMosaic Idealize.ShloMosaic.TcCoe Idealize.ShloMosaic.StableHlo Idealize.SL.Sem
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state holds each result and each argument at its last contents. -/
theorem run_last : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_v20) = W6 m ρ c (Proc.devRef .tc main_v20)
      ∧ r.2.mem ((c.tc : Thread nD τ).loc main_v21) = W6 m ρ c (Proc.devRef .tc main_v21)
      ∧ r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v18 (by decide)), h c _ (mem_uc main_v20 (by decide)), h c _ (mem_uc main_v21 (by decide)),
       h c _ (mem_uc main_v22 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-- Row `k` of the identity, along every point. -/
def unitRow (o : Fin 2 → Nat) (h : S2x2.Slices o S1x2) : Vec F S16x20000x2 .f32 :=
  broadcastInDim S16x20000x2 ![0, 1, 2] bcast_S1x1x2_S16x20000x2_0_1_2 (broadcastInDim S1x1x2 ![2] bcast_S2_S1x1x2_2
    (shapeCast S2 (extractStridedSlice S1x2 o ((fun i => FloatOps.ofBits .f32 (lit0 (S2x2.rowMajor i))) : Vec F S2x2 .f32) h) shapeCasts_S1x2_S2))

/-- One coordinate of every point, by the product with a row of the identity. -/
def part (x : Vec F S16x20000x2 .f32) (u : Vec F S16x20000x2 .f32) : Vec F S16x20000 .f32 :=
  Host.reduceAdd (mulf x u : FVec F S16x20000x2 .f32) (constant S_ .f32 0x00000000#32) reducesTo_S16x20000x2_S16x20000_d2 h_S_

abbrev partX (x : Vec F S16x20000x2 .f32) : Vec F S16x20000 .f32 := part x (unitRow ![0, 0] slices_S2x2_S1x2_0_0)
abbrev partY (x : Vec F S16x20000x2 .f32) : Vec F S16x20000 .f32 := part x (unitRow ![1, 0] slices_S2x2_S1x2_1_0)

/-- The last ground-truth points. -/
def tp (g : Vec F S16x30x2 .f32) : Vec F S16x2 .f32 :=
  shapeCast S16x2 (extractStridedSlice S16x1x2 ![0, 29, 0] g slices_S16x30x2_S16x1x2_0_29_0) shapeCasts_S16x1x2_S16x2

variable (c : Dev nD)

theorem V1_v5 : V1 m ρ c main_v5 = partX (m ((c : Thread nD τ).loc main_arg0)) := by
  unfold V1 W1
  simp only [hostOps0, List.flatten_cons, List.flatten_nil, List.append_nil, List.cons_append]
  rfl

theorem V1_v11 : V1 m ρ c main_v11 = partY (m ((c : Thread nD τ).loc main_arg0)) := by
  unfold V1 W1
  simp only [hostOps0, List.flatten_cons, List.flatten_nil, List.append_nil, List.cons_append]
  rfl

theorem V1_v13 : V1 m ρ c main_v13 = tp (m ((c : Thread nD τ).loc main_arg4)) := by
  unfold V1 W1
  simp only [hostOps0, List.flatten_cons, List.flatten_nil, List.append_nil, List.cons_append]
  rfl

/-- The first call's numbers, and its picks. -/
def nums (x : Vec F S16x20000x2 .f32) (s z : Vec F S16x20000 .f32) (g : Vec F S16x30x2 .f32) : Vec F S16x8 .f32 :=
  out0_5 (partX x) (partY x) s z (tp g)
def chosen (x : Vec F S16x20000x2 .f32) (s z : Vec F S16x20000 .f32) (g : Vec F S16x30x2 .f32) : Vec F S16x16 .i32 :=
  out0_6 (partX x) (partY x) s z (tp g)

theorem W2_nums : W2 m ρ c (Proc.devRef .tc main_v14_0) = nums (m ((c : Thread nD τ).loc main_arg0)) (m ((c : Thread nD τ).loc main_arg1))
    (m ((c : Thread nD τ).loc main_arg3)) (m ((c : Thread nD τ).loc main_arg4)) := by
  refine (W2_arr m ρ c 5).trans ?_
  rw [final0_5, V1_v5, V1_v11, V1_v13, show V1 m ρ c main_arg1 = _ from W1_args m ρ c main_arg1 (by decide),
    show V1 m ρ c main_arg3 = _ from W1_args m ρ c main_arg3 (by decide)]
  rfl

theorem W2_chosen : W2 m ρ c (Proc.devRef .tc main_v14_1) = chosen (m ((c : Thread nD τ).loc main_arg0)) (m ((c : Thread nD τ).loc main_arg1))
    (m ((c : Thread nD τ).loc main_arg3)) (m ((c : Thread nD τ).loc main_arg4)) := by
  refine (W2_arr m ρ c 6).trans ?_
  rw [final0_6, V1_v5, V1_v11, V1_v13, show V1 m ρ c main_arg1 = _ from W1_args m ρ c main_arg1 (by decide),
    show V1 m ρ c main_arg3 = _ from W1_args m ρ c main_arg3 (by decide)]
  rfl

theorem V3_chosen : V3 m ρ c main_v14_1 = chosen (m ((c : Thread nD τ).loc main_arg0)) (m ((c : Thread nD τ).loc main_arg1))
    (m ((c : Thread nD τ).loc main_arg3)) (m ((c : Thread nD τ).loc main_arg4)) :=
  (W3_of m ρ c main_v14_1 (by decide)).trans (W2_chosen m ρ c)

/-- The trajectories with the points last. -/
def table (t : Vec F S16x20000x30x2 .f32) : Vec F S16x30x2x20000 .f32 :=
  transpose S16x30x2x20000 [0, 2, 3, 1] t transposes_S16x20000x30x2_S16x30x2x20000_0_2_3_1

theorem V3_table : V3 m ρ c main_v15 = table (m ((c : Thread nD τ).loc main_arg2)) := by
  refine Eq.trans (b := table (W2 m ρ c (Proc.devRef .tc main_arg2))) ?_
    (congrArg _ (W2_args m ρ c main_arg2 (by decide)))
  unfold V3 W3
  simp only [hostOps1]
  rfl

/-- The second call's rows. -/
def rows : Vec F S16x16x30x2 .f32 := (dat1 (V3 m ρ) c).arrAt 2 cfg1.N

theorem W4_rows : W4 m ρ c (Proc.devRef .tc main_v16) = rows m ρ c := W4_arr m ρ c 2

theorem W4_nums : W4 m ρ c (Proc.devRef .tc main_v14_0) = nums (m ((c : Thread nD τ).loc main_arg0)) (m ((c : Thread nD τ).loc main_arg1))
    (m ((c : Thread nD τ).loc main_arg3)) (m ((c : Thread nD τ).loc main_arg4)) :=
  (W4_of m ρ c main_v14_0 (by decide)).trans ((W3_of m ρ c main_v14_0 (by decide)).trans (W2_nums m ρ c))

theorem W5_loss : W5 m ρ c (Proc.devRef .tc main_v17) = out2_3 (rows m ρ c) (m ((c : Thread nD τ).loc main_arg4))
    (nums (m ((c : Thread nD τ).loc main_arg0)) (m ((c : Thread nD τ).loc main_arg1))
      (m ((c : Thread nD τ).loc main_arg3)) (m ((c : Thread nD τ).loc main_arg4))) := by
  refine (W5_arr m ρ c 3).trans ?_
  rw [final2_3, show V4 m ρ c main_v16 = _ from W4_rows m ρ c, show V4 m ρ c main_arg4 = _ from W4_args m ρ c main_arg4 (by decide),
    show V4 m ρ c main_v14_0 = _ from W4_nums m ρ c]

theorem W5_rows : W5 m ρ c (Proc.devRef .tc main_v16) = rows m ρ c :=
  (W5_of m ρ c main_v16 (by decide)).trans (W4_rows m ρ c)

theorem W5_nums : W5 m ρ c (Proc.devRef .tc main_v14_0) = nums (m ((c : Thread nD τ).loc main_arg0)) (m ((c : Thread nD τ).loc main_arg1))
    (m ((c : Thread nD τ).loc main_arg3)) (m ((c : Thread nD τ).loc main_arg4)) :=
  (W5_of m ρ c main_v14_0 (by decide)).trans (W4_nums m ρ c)

/-! The four results as the last stretch lays them. -/

def lay0 (l : Vec F S1x1 .f32) : Vec F S_ .f32 := shapeCast S_ l shapeCasts_S1x1_S_
def lay1 (n : Vec F S16x8 .f32) : Vec F S16 .f32 := shapeCast S16 (extractStridedSlice S16x1 ![0, 1] n slices_S16x8_S16x1_0_1) shapeCasts_S16x1_S16
def lay2 (r : Vec F S16x16x30x2 .f32) : Vec F S16x6x30x2 .f32 := extractStridedSlice S16x6x30x2 ![0, 10, 0, 0] r slices_S16x16x30x2_S16x6x30x2_0_10_0_0
def lay3 (n : Vec F S16x8 .f32) : Vec F S16x6 .f32 := extractStridedSlice S16x6 ![0, 2] n slices_S16x8_S16x6_0_2

theorem W6_lay : W6 m ρ c (Proc.devRef .tc main_v18) = lay0 (W5 m ρ c (Proc.devRef .tc main_v17))
    ∧ W6 m ρ c (Proc.devRef .tc main_v20) = lay1 (W5 m ρ c (Proc.devRef .tc main_v14_0))
    ∧ W6 m ρ c (Proc.devRef .tc main_v21) = lay2 (W5 m ρ c (Proc.devRef .tc main_v16))
    ∧ W6 m ρ c (Proc.devRef .tc main_v22) = lay3 (W5 m ρ c (Proc.devRef .tc main_v14_0)) := by
  unfold W6
  generalize W5 m ρ c = v
  simp only [hostOps3]
  exact ⟨rfl, rfl, rfl, rfl⟩

end Cert.Proof.Ker

end
-- ==== Proof.Mean.lean ====
module

public import proofs.«01_k».proof.Proof.Lanes
public import proofs.«01_k».proof.Proof.Run

@[expose] public section

noncomputable section

/-! The last call's mean over the samples, and the reference's. -/

namespace Cert.Proof.Mean

open Idealize.ShloMosaic Idealize.ShloMosaic.TcCoe Cert.Proof.Rows

theorem ix4_of {n0 n1 n2 n3 : Nat} (i : (⟨4, ![n0, n1, n2, n3]⟩ : Shape).Idx) (b : Fin n0) (h : i 0 = b) : ix4 b (i 1) (i 2) (i 3) = i := by
  subst h
  funext a
  fin_cases a <;> rfl

/-- A sum over the places of one sample. -/
theorem sum_sample {n0 n1 n2 n3 : Nat} (P : (⟨4, ![n0, n1, n2, n3]⟩ : Shape).Idx → Prop) [DecidablePred P] (b : Fin n0)
    (hP : ∀ i, P i ↔ i 0 = b) (f : (⟨4, ![n0, n1, n2, n3]⟩ : Shape).Idx → EReal) :
    ∑ i ∈ Finset.univ.filter P, f i = ∑ j, ∑ t, ∑ d, f (ix4 b j t d) := by
  rw [show (∑ j, ∑ t, ∑ d, f (ix4 b j t d)) = ∑ p : Fin n1 × Fin n2 × Fin n3, f (ix4 b p.1 p.2.1 p.2.2) by
    simp only [Fintype.sum_prod_type]]
  refine Finset.sum_bij' (fun i _ => (i 1, i 2, i 3)) (fun p _ => ix4 b p.1 p.2.1 p.2.2) (fun _ _ => Finset.mem_univ _)
    (fun p _ => Finset.mem_filter.2 ⟨Finset.mem_univ _, (hP _).2 rfl⟩) (fun i hi => ?_) (fun p _ => rfl) (fun i hi => ?_)
  · exact ix4_of i b ((hP i).1 (Finset.mem_filter.1 hi).2)
  · exact congrArg f (ix4_of i b ((hP i).1 (Finset.mem_filter.1 hi).2)).symm

end Cert.Proof.Mean

namespace Cert.Proof.Ker

open Cert.KernelIdeal Cert.KernelIdeal.Gen Idealize.ShloMosaic Idealize.ShloMosaic.TcCoe Cert.Proof.Rows

theorem sum_at (v : FVec Ideal S16x16x30x2 .f32) (b : Fin 16) :
    Ideal.reduceAdd reduces_S16x16x30x2_S16 v (ix1 b) = ∑ j, ∑ t, ∑ d, v (ix4 b j t d) := by
  unfold Ideal.reduceAdd
  refine Mean.sum_sample _ b (fun i => ⟨fun h => ?_, fun h => ?_⟩) v
  · exact Fin.ext (congrArg Fin.val (congrFun h 0))
  · funext a
    fin_cases a
    exact Fin.ext (congrArg Fin.val h)

/-- A lane below ten keeps its value, another is nought. -/
theorem first_ten (j : Fin 16) (u : EReal) :
    Scalar.select (IntOp.cmpi .slt (BitVec.ofNat 32 j.val) 10#32) u 0 = if j.val < 10 then u else 0 := by
  fin_cases j <;> rfl

/-- The last call's mean over the samples. -/
theorem mean_at (r : FVec Ideal S16x16x30x2 .f32) (g : FVec Ideal S16x30x2 .f32) (n : FVec Ideal S16x1 .f32) :
    k2_pay1 (F := Ideal) r g n (ix2 0 0)
      = Ideal.div (∑ b : Fin 16, (n (ix2 b 0) + Ideal.div (∑ j : Fin 16, ∑ t : Fin 30, ∑ d : Fin 2,
          if j.val < 10 then smoothAbs (r (ix4 b j t d) - g (ix3 b t d)) else 0) (Ideal.ofBits .f32 0x44160000#32)))
        (Ideal.ofBits .f32 0x41800000#32) := by
  simp only [← first_ten]
  pointwise [k2_pay1]
  simp only [sum_at]
  pointwise
  rfl

/-- Only the first ten rows count. -/
theorem sum_ten (f : Fin 16 → EReal) : (∑ j : Fin 16, if j.val < 10 then f j else 0) = ∑ j : Fin 10, f (Fin.castLE (by omega) j) := by
  rw [show (∑ j : Fin 16, if j.val < 10 then f j else 0) = ∑ j : Fin (10 + 6), if j.val < 10 then f j else 0 from rfl, Fin.sum_univ_add]
  have h : ∀ j : Fin 6, ¬ (Fin.natAdd 10 j).val < 10 := fun j => by simp
  simp only [if_neg (h _), Finset.sum_const_zero, add_zero]
  exact Finset.sum_congr rfl fun j _ => if_pos j.isLt

end Cert.Proof.Ker

namespace Cert.Proof.Ref

open Cert.ReferenceIdeal Cert.ReferenceIdeal.Gen Idealize.ShloMosaic Idealize.ShloMosaic.TcCoe Cert.Proof.Rows

theorem sumT_at (v : T Ideal S16x10x30x2 .f32) (b : Fin 16) :
    Ideal.hostReduceAdd reducesTo_S16x10x30x2_S16_d1_2_3 v 0 (ix1 b) = ∑ j, ∑ t, ∑ d, v (ix4 b j t d) := by
  unfold Ideal.hostReduceAdd
  rw [zero_add]
  refine Mean.sum_sample _ b (fun i => ⟨fun h => ?_, fun h => ?_⟩) v
  · exact Fin.ext (congrArg Fin.val (congrFun h 0))
  · funext a
    fin_cases a
    exact Fin.ext (congrArg Fin.val h)

theorem mean16_at (l : T Ideal S16 .f32) (i : S_.Idx) : mean16 l i = Ideal.div (∑ b : Fin 16, l (ix1 b)) (Ideal.ofBits .f32 0x41800000#32) := by
  pointwise [mean16]

theorem meanT_at (q : T Ideal S16x10x30x2 .f32) (g : T Ideal S16x30x2 .f32) (b : Fin 16) :
    meanT (soft (away q g)) (ix1 b) = Ideal.div (∑ j : Fin 10, ∑ t : Fin 30, ∑ d : Fin 2, smoothAbs (q (ix4 b j t d) - g (ix3 b t d)))
      (Ideal.ofBits .f32 0x44160000#32) := by
  pointwise [meanT]
  rw [sumT_at]
  pointwise [soft, away, splatT]
  rfl

/-! The trajectories looked up. -/

section
variable (b : Fin 16) (n : Fin 20000)

theorem operandT10 (i : IVec S16x10x1 32) (k : Fin 10) (t : Fin 30) (c : Fin 2) (h : i (ix3 b k 0) = BitVec.ofNat 32 n.val) :
    gather_S16x20000x30x2_S16x10x1_S16x10x30x2_23_1_0_0_1_2_11302.operandIdx (ix4 b k t c) i = ix4 b n t c := by
  have hs : gather_S16x20000x30x2_S16x10x1_S16x10x30x2_23_1_0_0_1_2_11302.siIdx (ix4 b k t c) ⟨0, Nat.one_pos⟩ = ix3 b k 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000x30x2_S16x10x1_S16x10x30x2_23_1_0_0_1_2_11302.siIdx (ix4 b k t c) ⟨0, Nat.one_pos⟩)).toInt.toNat 19999 + 0 + 0 = n.val
    rw [hs, h, toInt_ofNat n.val n.isLt]
    have := n.isLt
    omega
  · show GatherDims.start _ _ _ 2 + GatherDims.batchCoord _ _ 2 + GatherDims.offCoord _ _ 2 = _
    rw [GatherDims.batchCoord_eq_zero _ _ _ (by decide)]
    show 0 + 0 + t.val = t.val
    omega
  · show GatherDims.start _ _ _ 3 + GatherDims.batchCoord _ _ 3 + GatherDims.offCoord _ _ 3 = _
    rw [GatherDims.batchCoord_eq_zero _ _ _ (by decide)]
    show 0 + 0 + c.val = c.val
    omega

theorem operandT6 (i : IVec S16x6x1 32) (k : Fin 6) (t : Fin 30) (c : Fin 2) (h : i (ix3 b k 0) = BitVec.ofNat 32 n.val) :
    gather_S16x20000x30x2_S16x6x1_S16x6x30x2_23_1_0_0_1_2_11302.operandIdx (ix4 b k t c) i = ix4 b n t c := by
  have hs : gather_S16x20000x30x2_S16x6x1_S16x6x30x2_23_1_0_0_1_2_11302.siIdx (ix4 b k t c) ⟨0, Nat.one_pos⟩ = ix3 b k 0 := by
    funext c; fin_cases c <;> rfl
  funext a
  fin_cases a <;> apply Fin.ext
  · show GatherDims.start _ _ _ 0 + GatherDims.batchCoord _ _ 0 + GatherDims.offCoord _ _ 0 = _
    rw [GatherDims.start_batching _ _ _ _ (by decide), GatherDims.offCoord_eq_zero _ _ _ (by decide), Nat.zero_add, Nat.add_zero]
    rfl
  · show GatherDims.start _ _ _ 1 + GatherDims.batchCoord _ _ 1 + GatherDims.offCoord _ _ 1 = _
    rw [GatherDims.batchCoord_eq_zero _ _ _ (by decide), GatherDims.offCoord_eq_zero _ _ _ (by decide)]
    show min (i (gather_S16x20000x30x2_S16x6x1_S16x6x30x2_23_1_0_0_1_2_11302.siIdx (ix4 b k t c) ⟨0, Nat.one_pos⟩)).toInt.toNat 19999 + 0 + 0 = n.val
    rw [hs, h, toInt_ofNat n.val n.isLt]
    have := n.isLt
    omega
  · show GatherDims.start _ _ _ 2 + GatherDims.batchCoord _ _ 2 + GatherDims.offCoord _ _ 2 = _
    rw [GatherDims.batchCoord_eq_zero _ _ _ (by decide)]
    show 0 + 0 + t.val = t.val
    omega
  · show GatherDims.start _ _ _ 3 + GatherDims.batchCoord _ _ 3 + GatherDims.offCoord _ _ 3 = _
    rw [GatherDims.batchCoord_eq_zero _ _ _ (by decide)]
    show 0 + 0 + c.val = c.val
    omega

theorem wrap6_at (i : T Ideal S6x16 .i32) (k : Fin 6) (h : i (ix2 k b) = BitVec.ofNat 32 n.val) :
    wrap6 (F := Ideal) i (ix3 b k 0) = BitVec.ofNat 32 n.val := by
  pointwise [wrap6]
  rw [h]
  exact wrap_word n

theorem trajs10_at (q : T Ideal S16x20000x30x2 .f32) (i : T Ideal S16x10 .i32) (k : Fin 10) (t : Fin 30) (c : Fin 2)
    (h : i (ix2 b k) = BitVec.ofNat 32 n.val) : trajs10 q i (ix4 b k t c) = q (ix4 b n t c) :=
  congrArg q (operandT10 b n _ k t c (wrap10_at i b k n h))

theorem trajs6_at (q : T Ideal S16x20000x30x2 .f32) (i : T Ideal S6x16 .i32) (k : Fin 6) (t : Fin 30) (c : Fin 2)
    (h : i (ix2 k b) = BitVec.ofNat 32 n.val) : trajs6 q i (ix4 b k t c) = q (ix4 b n t c) :=
  congrArg q (operandT6 b n _ k t c (wrap6_at b n i k h))

end

end Cert.Proof.Ref

end
-- ==== Proof.KerRun.lean ====
module

public import proofs.«01_k».proof.Proof.KerVal
public import Idealize.ShloMosaic.Lib.Pipeline.Value

@[expose] public section

noncomputable section

/-! The kernel body's values are the named ones. -/

namespace Cert.Proof.Ker

open Cert.KernelIdeal Cert.KernelIdeal.Gen Idealize.ShloMosaic Idealize.ShloMosaic.TcCoe Idealize.SL.Sem

variable {F : FTy → Type} [FloatOps F]

section
variable (x0 x1 x2 x3 : Vec F S16x20000 .f32) (x4 : Vec F S16x2 .f32)

/-- The rows of horizontal places, of vertical places, and the target's two. -/
abbrev xs : FVec F S16x20000 .f32 := shapeCast S16x20000 (View.ld x0 r0_0) shapeCasts_S16x20000_S16x20000
abbrev ys : FVec F S16x20000 .f32 := shapeCast S16x20000 (View.ld x1 r0_0) shapeCasts_S16x20000_S16x20000
abbrev px : FVec F S16 .f32 := shapeCast S16 (View.ld x4 r0_1) shapeCasts_S16x1_S16
abbrev py : FVec F S16 .f32 := shapeCast S16 (View.ld x4 r0_2) shapeCasts_S16x1_S16
abbrev sc : FVec F S16x20000 .f32 := View.ld x2 r0_0
abbrev ce : FVec F S16x20000 .f32 := View.ld x3 r0_0

theorem at_start : k0_pay213 x0 x1 x2 x3 x4 = lin ∧ k0_pay214 x0 x1 x2 x3 x4 = iota .tc S16x16 32 [0] iota_S16x16_d0_w32
    ∧ k0_pay215 x0 x1 x2 x3 x4 = iota .tc S16x8 32 [1] iota_S16x8_d1_w32 ∧ k0_pay216 x0 x1 x2 x3 x4 = xs x0 ∧ k0_pay217 x0 x1 x2 x3 x4 = ys x1
    ∧ k0_pay218 x0 x1 x2 x3 x4 = px x4 ∧ k0_pay219 x0 x1 x2 x3 x4 = py x4 :=
  ⟨rfl, rfl, rfl, rfl, rfl, rfl, rfl⟩

theorem pick0 : k0_pay220 x0 x1 x2 x3 x4 = rmax (work (sc x2) 0)
    ∧ k0_pay221 x0 x1 x2 x3 x4 = hot (work (sc x2) 0)
    ∧ k0_pay222 x0 x1 x2 x3 x4 = ext (xs x0) (work (sc x2) 0)
    ∧ k0_pay223 x0 x1 x2 x3 x4 = ext (ys x1) (work (sc x2) 0) := by
  refine ⟨?_, ?_, ?_, ?_⟩ <;>
  · simp only [k0_pay220, k0_pay221, k0_pay222, k0_pay223, at_start]
    rfl

theorem pick1 : k0_pay224 x0 x1 x2 x3 x4 = work (sc x2) 1
    ∧ k0_pay225 x0 x1 x2 x3 x4 = rmax (work (sc x2) 1)
    ∧ k0_pay226 x0 x1 x2 x3 x4 = hot (work (sc x2) 1)
    ∧ k0_pay227 x0 x1 x2 x3 x4 = select (hot (work (sc x2) 1)) (xs x0) (lit 0x00000000#32) := by
  refine ⟨?_, ?_, ?_, ?_⟩ <;>
  · simp only [k0_pay224, k0_pay225, k0_pay226, k0_pay227, at_start, pick0]
    rfl

theorem pick2 : k0_pay228 x0 x1 x2 x3 x4 = rmax (work (sc x2) 2)
    ∧ k0_pay229 x0 x1 x2 x3 x4 = cand (work (sc x2) 2) := by
  refine ⟨?_, ?_⟩ <;>
  · simp only [k0_pay228, k0_pay229, at_start, pick0, pick1]
    rfl

theorem pick3 : k0_pay230 x0 x1 x2 x3 x4 = work (sc x2) 3
    ∧ k0_pay231 x0 x1 x2 x3 x4 = rmax (work (sc x2) 3)
    ∧ k0_pay232 x0 x1 x2 x3 x4 = hot (work (sc x2) 3) := by
  refine ⟨?_, ?_, ?_⟩ <;>
  · simp only [k0_pay230, k0_pay231, k0_pay232, at_start, pick1, pick2]
    rfl

theorem pick4 : k0_pay233 x0 x1 x2 x3 x4 = work (sc x2) 4
    ∧ k0_pay234 x0 x1 x2 x3 x4 = rmax (work (sc x2) 4)
    ∧ k0_pay235 x0 x1 x2 x3 x4 = hot (work (sc x2) 4) := by
  refine ⟨?_, ?_, ?_⟩ <;>
  · simp only [k0_pay233, k0_pay234, k0_pay235, at_start, pick2, pick3]
    rfl

theorem pick5 : k0_pay236 x0 x1 x2 x3 x4 = work (sc x2) 5
    ∧ k0_pay237 x0 x1 x2 x3 x4 = rmax (work (sc x2) 5)
    ∧ k0_pay238 x0 x1 x2 x3 x4 = hot (work (sc x2) 5)
    ∧ k0_pay239 x0 x1 x2 x3 x4 = ext (xs x0) (work (sc x2) 5)
    ∧ k0_pay240 x0 x1 x2 x3 x4 = ext (ys x1) (work (sc x2) 5)
    ∧ k0_pay241 x0 x1 x2 x3 x4 = ext (ce x3) (work (sc x2) 5) := by
  refine ⟨?_, ?_, ?_, ?_, ?_, ?_⟩ <;>
  · simp only [k0_pay236, k0_pay237, k0_pay238, k0_pay239, k0_pay240, k0_pay241, at_start, pick3, pick4]
    rfl

theorem pick6 : k0_pay242 x0 x1 x2 x3 x4 = work (sc x2) 6
    ∧ k0_pay243 x0 x1 x2 x3 x4 = rmax (work (sc x2) 6)
    ∧ k0_pay244 x0 x1 x2 x3 x4 = hot (work (sc x2) 6)
    ∧ k0_pay245 x0 x1 x2 x3 x4 = ext (xs x0) (work (sc x2) 6)
    ∧ k0_pay246 x0 x1 x2 x3 x4 = ext (ys x1) (work (sc x2) 6) := by
  refine ⟨?_, ?_, ?_, ?_, ?_⟩ <;>
  · simp only [k0_pay242, k0_pay243, k0_pay244, k0_pay245, k0_pay246, at_start, pick4, pick5]
    rfl

theorem pick7 : k0_pay247 x0 x1 x2 x3 x4 = work (sc x2) 7
    ∧ k0_pay248 x0 x1 x2 x3 x4 = rmax (work (sc x2) 7)
    ∧ k0_pay249 x0 x1 x2 x3 x4 = hot (work (sc x2) 7)
    ∧ k0_pay250 x0 x1 x2 x3 x4 = ext (xs x0) (work (sc x2) 7)
    ∧ k0_pay251 x0 x1 x2 x3 x4 = ext (ys x1) (work (sc x2) 7) := by
  refine ⟨?_, ?_, ?_, ?_, ?_⟩ <;>
  · simp only [k0_pay247, k0_pay248, k0_pay249, k0_pay250, k0_pay251, at_start, pick5, pick6]
    rfl

theorem pick8 : k0_pay252 x0 x1 x2 x3 x4 = work (sc x2) 8
    ∧ k0_pay253 x0 x1 x2 x3 x4 = rmax (work (sc x2) 8)
    ∧ k0_pay254 x0 x1 x2 x3 x4 = hot (work (sc x2) 8)
    ∧ k0_pay255 x0 x1 x2 x3 x4 = ext (xs x0) (work (sc x2) 8)
    ∧ k0_pay256 x0 x1 x2 x3 x4 = select (hot (work (sc x2) 8)) (ys x1) (lit 0x00000000#32) := by
  refine ⟨?_, ?_, ?_, ?_, ?_⟩ <;>
  · simp only [k0_pay252, k0_pay253, k0_pay254, k0_pay255, k0_pay256, at_start, pick6, pick7]
    rfl

theorem pick9 : k0_pay257 x0 x1 x2 x3 x4 = rmax (work (sc x2) 9)
    ∧ k0_pay258 x0 x1 x2 x3 x4 = hot (work (sc x2) 9) := by
  refine ⟨?_, ?_⟩ <;>
  · simp only [k0_pay257, k0_pay258, at_start, pick7, pick8]
    rfl

theorem kept0 : k0_pay259 x0 x1 x2 x3 x4 = left (xs x0) (ys x1) (mulf (sc x2) (ce x3)) 0
    ∧ k0_pay260 x0 x1 x2 x3 x4 = ext (xs x0) (left (xs x0) (ys x1) (mulf (sc x2) (ce x3)) 0)
    ∧ k0_pay261 x0 x1 x2 x3 x4 = ext (ys x1) (left (xs x0) (ys x1) (mulf (sc x2) (ce x3)) 0) := by
  refine ⟨?_, ?_, ?_⟩ <;>
  · simp only [k0_pay259, k0_pay260, k0_pay261, at_start]
    rfl

theorem kept1 : k0_pay262 x0 x1 x2 x3 x4 = left (xs x0) (ys x1) (mulf (sc x2) (ce x3)) 1
    ∧ k0_pay263 x0 x1 x2 x3 x4 = ext (xs x0) (left (xs x0) (ys x1) (mulf (sc x2) (ce x3)) 1)
    ∧ k0_pay264 x0 x1 x2 x3 x4 = ext (ys x1) (left (xs x0) (ys x1) (mulf (sc x2) (ce x3)) 1) := by
  refine ⟨?_, ?_, ?_⟩ <;>
  · simp only [k0_pay262, k0_pay263, k0_pay264, at_start, kept0]
    rfl

theorem kept2 : k0_pay265 x0 x1 x2 x3 x4 = left (xs x0) (ys x1) (mulf (sc x2) (ce x3)) 2
    ∧ k0_pay266 x0 x1 x2 x3 x4 = ext (xs x0) (left (xs x0) (ys x1) (mulf (sc x2) (ce x3)) 2)
    ∧ k0_pay267 x0 x1 x2 x3 x4 = ext (ys x1) (left (xs x0) (ys x1) (mulf (sc x2) (ce x3)) 2) := by
  refine ⟨?_, ?_, ?_⟩ <;>
  · simp only [k0_pay265, k0_pay266, k0_pay267, at_start, kept0, kept1]
    rfl

theorem kept3 : k0_pay268 x0 x1 x2 x3 x4 = left (xs x0) (ys x1) (mulf (sc x2) (ce x3)) 3
    ∧ k0_pay269 x0 x1 x2 x3 x4 = ext (xs x0) (left (xs x0) (ys x1) (mulf (sc x2) (ce x3)) 3)
    ∧ k0_pay270 x0 x1 x2 x3 x4 = select (hot (left (xs x0) (ys x1) (mulf (sc x2) (ce x3)) 3)) (ys x1) (lit 0x00000000#32) := by
  refine ⟨?_, ?_, ?_⟩ <;>
  · simp only [k0_pay268, k0_pay269, k0_pay270, at_start, kept1, kept2]
    rfl

theorem kept4 : k0_pay271 x0 x1 x2 x3 x4 = left (xs x0) (ys x1) (mulf (sc x2) (ce x3)) 4
    ∧ k0_pay272 x0 x1 x2 x3 x4 = hot (left (xs x0) (ys x1) (mulf (sc x2) (ce x3)) 4)
    ∧ k0_pay273 x0 x1 x2 x3 x4 = select (hot (left (xs x0) (ys x1) (mulf (sc x2) (ce x3)) 4)) (xs x0) (lit 0x00000000#32) := by
  refine ⟨?_, ?_, ?_⟩ <;>
  · simp only [k0_pay271, k0_pay272, k0_pay273, at_start, kept2, kept3]
    rfl

theorem out_scal : out0_5 x0 x1 x2 x3 x4 = scal (xs x0) (ys x1) (sc x2) (ce x3) (px x4) (py x4) 6 := by
  unfold out0_5
  simp only [at_start, pick0, pick1, pick2, pick3, pick4, pick5, pick6, pick7, pick8, pick9, kept0, kept1, kept2, kept3, kept4]
  refine (View.canon_unit_zero (by funext a; fin_cases a <;> rfl) _ _).trans ?_
  rfl

theorem out_rows : out0_6 x0 x1 x2 x3 x4 = place putRow (picks (xs x0) (ys x1) (sc x2) (ce x3)) 16 := by
  unfold out0_6
  simp only [at_start, pick0, pick1, pick2, pick3, pick4, pick5, pick6, pick7, pick8, pick9, kept0, kept1, kept2, kept3, kept4]
  refine (View.canon_unit_zero (by funext a; fin_cases a <;> rfl) _ _).trans ?_
  rfl

end

end Cert.Proof.Ker

end
-- ==== Proof.Same.lean ====
module

public import proofs.«01_k».proof.Proof.Mean
public import proofs.«01_k».proof.Proof.KerRun

@[expose] public section

noncomputable section

/-! The kernel's results are the reference's. -/

namespace Cert.Proof.Ker

open Cert.KernelIdeal Cert.KernelIdeal.Gen Idealize.ShloMosaic Idealize.ShloMosaic.TcCoe

section
variable (x : FVec Ideal S16x20000x2 .f32) (s : FVec Ideal S16x20000 .f32) (g : FVec Ideal S16x30x2 .f32)

theorem lit_at (k i : Fin 2) : lit0 (S2x2.rowMajor (ix2 k i)) = if i = k then 0x3F800000#32 else 0x00000000#32 := by
  fin_cases k <;> fin_cases i <;> rfl

theorem unit_word (k i : Fin 2) : Ideal.ofBits .f32 (lit0 (S2x2.rowMajor (ix2 k i))) = if i = k then 1 else 0 := by
  rw [lit_at]
  split
  · exact (show Ideal.ofBits .f32 0x3F800000#32 = ((1 : ℝ) : EReal) by
      simp [Ideal.ofBits, Ideal.ieee, -EReal.coe_mul]; norm_num).trans EReal.coe_one
  · simp [Ideal.ofBits, Ideal.ieee]

theorem unitX_at (b : Fin 16) (j : Fin 20000) (i : Fin 2) :
    unitRow (F := Ideal) ![0, 0] slices_S2x2_S1x2_0_0 (ix3 b j i) = if i = 0 then 1 else 0 := by
  refine Eq.trans ?_ (unit_word 0 i)
  pointwise [unitRow]

theorem unitY_at (b : Fin 16) (j : Fin 20000) (i : Fin 2) :
    unitRow (F := Ideal) ![1, 0] slices_S2x2_S1x2_1_0 (ix3 b j i) = if i = 1 then 1 else 0 := by
  refine Eq.trans ?_ (unit_word 1 i)
  pointwise [unitRow]

theorem part_at (u : FVec Ideal S16x20000x2 .f32) (b : Fin 16) (j : Fin 20000) :
    part (F := Ideal) x u (ix2 b j) = (x (ix3 b j 0) * u (ix3 b j 0) + x (ix3 b j 1) * u (ix3 b j 1) : EReal) := by
  pointwise [part]
  rw [Fin.sum_univ_two]

theorem xs_of (v : FVec Ideal S16x20000 .f32) (i : S16x20000.Idx) : xs (F := Ideal) v i = v i := by
  rw [← ix2_eta i]
  pointwise

theorem ys_of (v : FVec Ideal S16x20000 .f32) (i : S16x20000.Idx) : ys (F := Ideal) v i = v i := by
  rw [← ix2_eta i]
  pointwise

theorem xs_at (b : Fin 16) (j : Fin 20000) : xs (partX (F := Ideal) x) (ix2 b j) = x (ix3 b j 0) := by
  rw [xs_of, partX, part_at, unitX_at, unitX_at, if_pos rfl, if_neg (by decide), mul_one, mul_zero, add_zero]

theorem ys_at (b : Fin 16) (j : Fin 20000) : ys (partY (F := Ideal) x) (ix2 b j) = x (ix3 b j 1) := by
  rw [ys_of, partY, part_at, unitY_at, unitY_at, if_pos rfl, if_neg (by decide), mul_one, mul_zero, zero_add]

theorem px_at (b : Fin 16) : px (tp g) (ix1 b) = g (ix3 b 29 0) := by
  pointwise [px, tp]

theorem py_at (b : Fin 16) : py (tp g) (ix1 b) = g (ix3 b 29 1) := by
  pointwise [py, tp]

theorem sc_eq : sc s = s := View.ld_unit_zero (by funext a; fin_cases a <;> rfl) _ _

theorem ce_eq : ce s = s := View.ld_unit_zero (by funext a; fin_cases a <;> rfl) _ _

end

end Cert.Proof.Ker

namespace Cert.Proof.Ref

open Cert.ReferenceIdeal Cert.ReferenceIdeal.Gen Idealize.ShloMosaic Idealize.ShloMosaic.TcCoe

variable (x : T Ideal S16x20000x2 .f32) (s z : T Ideal S16x20000 .f32) (g : T Ideal S16x30x2 .f32) (q : T Ideal S16x20000x30x2 .f32)

/-- The scores after the centerness. -/
abbrev both (s z : FVec Ideal S16x20000 .f32) : T Ideal S16x20000 .f32 := mulf s z

/-! The four results. -/

def res0 : T Ideal S_ .f32 := mean16 (lossAll (meanT (soft (away (trajs10 q (top s)) g)) : FVec Ideal S16 .f32) x s z (tgt g))

theorem lossAll_eq (t : FVec Ideal S16 .f32) (p : T Ideal S16x2 .f32) : lossAll t x s z p = addf t (loss x s z p) := by
  funext i
  show (((_ + _ : EReal) + _) + _) + _ = _ + (((_ + _) + _) + _)
  simp only [add_assoc]

theorem res0_eq : res0 x s z g q = mean16 (addf (meanT (soft (away (trajs10 q (top s)) g)) : FVec Ideal S16 .f32) (loss x s z (tgt g))) :=
  congrArg mean16 (lossAll_eq x s z _ _)

def res1 : T Ideal S16 .f32 := Host.sqrt (disp (pt1 x (arg (both s z))) (tgt g))
def res2 : T Ideal S16x6x30x2 .f32 := trajs6 q (kept x (both s z))
def res3 : T Ideal S16x6 .f32 := transpose S16x6 [1, 0] (probs x (both s z)) transposes_S6x16_S16x6_1_0

end Cert.Proof.Ref

namespace Cert.Proof.Same

open Idealize.ShloMosaic Idealize.ShloMosaic.TcCoe Cert.Proof.Rows

variable (x : Ref.T Ideal Cert.ReferenceIdeal.S16x20000x2 .f32) (s z : Ref.T Ideal Cert.ReferenceIdeal.S16x20000 .f32)
  (g : Ref.T Ideal Cert.ReferenceIdeal.S16x30x2 .f32) (q : Ref.T Ideal Cert.ReferenceIdeal.S16x20000x30x2 .f32)

theorem row_xs (b : Fin 16) : Ker.row (Ker.xs (Ker.partX x)) b = Ref.coord x 0 b := funext fun j => Ker.xs_at x b j

theorem row_ys (b : Fin 16) : Ker.row (Ker.ys (Ker.partY x)) b = Ref.coord x 1 b := funext fun j => Ker.ys_at x b j

theorem tgt_at (b : Fin 16) (i : Fin 2) : Ref.tgt g (ix2 b i) = g (ix3 b 29 i) := by
  pointwise [Ref.tgt]

theorem px_tgt (b : Fin 16) : Ker.px (Ker.tp g) (ix1 b) = Ref.tgt g (ix2 b 0) := (Ker.px_at g b).trans (tgt_at g b 0).symm

theorem py_tgt (b : Fin 16) : Ker.py (Ker.tp g) (ix1 b) = Ref.tgt g (ix2 b 1) := (Ker.py_at g b).trans (tgt_at g b 1).symm

/-- The first number of a sample: its loss without the trajectories. -/
theorem loss_at (hs : ∀ j, (⊥ : EReal) < s j) (b : Fin 16) :
    Ker.nums x s z g (ix2 b 0) = Ref.loss x s z (Ref.tgt g) (ix1 b) := by
  rw [Ker.nums, Ker.out_scal, Ker.sc_eq, Ker.ce_eq, Ker.scal_at, if_pos (show (0 : Fin 8).val = 0 from rfl)]
  exact Meet.loss_eq x s z (Ref.tgt g) _ _ _ _ b (row_xs x) (row_ys x) (px_tgt g) (py_tgt g) hs

/-- The second: the distance of its best point from the target. -/
theorem dist_at (b : Fin 16) :
    Ker.nums x s z g (ix2 b 1)
      = (Host.sqrt (Ref.disp (Ref.pt1 x (Ref.arg (Ref.both s z))) (Ref.tgt g)) : Ref.T Ideal Cert.ReferenceIdeal.S16 .f32) (ix1 b) := by
  rw [Ker.nums, Ker.out_scal, Ker.sc_eq, Ker.ce_eq, Ker.scal_at, if_neg (by decide), if_pos (show (1 : Fin 8).val = 1 from rfl)]
  exact Meet.dist_eq x (Ref.both s z) (Ref.tgt g) _ _ _ _ b (row_xs x) (row_ys x) (px_tgt g) (py_tgt g)

/-- The other six: the kept probabilities. -/
theorem prob_at (b : Fin 16) (n : Fin 6) (j : Fin 8) (h : j.val = n.val + 2) :
    Ker.nums x s z g (ix2 b j) = Ref.probs x (Ref.both s z) (ix2 n b) := by
  rw [Ker.nums, Ker.out_scal, Ker.sc_eq, Ker.ce_eq, Ker.scal_at, if_neg (by omega), if_neg (by omega), Ref.probs_at,
    show j.val - 2 = n.val by omega]
  exact Meet.prob_eq x (Ref.both s z) _ _ b (row_xs x) (row_ys x) n

theorem chosen_at (b j : Fin 16) :
    Ker.chosen x s z g (ix2 j b) = Ker.picks (Ker.xs (Ker.partX x)) (Ker.ys (Ker.partY x)) s z j.val (ix1 b) := by
  rw [Ker.chosen, Ker.out_rows, Ker.sc_eq, Ker.ce_eq,
    Ker.place_at Ker.putRow _ b j _ (fun k hk v => Ker.putRow_at k hk v j b) 16 (by omega), if_pos j.isLt]

/-- The place the reference keeps as its `n`-th candidate. -/
def keep (n : Nat) (b : Fin 16) : Fin 20000 := best (Ref.row (Ref.left x (Ref.both s z) n) b)

/-- The first ten picks of a sample are its ten best scores. -/
theorem top_pick (b j : Fin 16) (h : j.val < 10) :
    Ker.chosen x s z g (ix2 j b) = BitVec.ofNat 32 (nth (Ref.row s b) j.val).val := by
  rw [chosen_at]
  unfold Ker.picks
  rw [if_pos h, Ker.pos_at, Ker.row_work]
  rfl

/-- The other six are its kept candidates. -/
theorem keep_pick (b j : Fin 16) (n : Fin 6) (h : j.val = n.val + 10) :
    Ker.chosen x s z g (ix2 j b) = BitVec.ofNat 32 (keep x s z n.val b).val := by
  rw [chosen_at]
  unfold Ker.picks
  rw [if_neg (by omega), show j.val - 10 = n.val by omega]
  exact (Meet.pos_eq x (Ref.both s z) _ _ b (row_xs x) (row_ys x) _).trans (Ref.arg_at _ b)

theorem kept_word (n : Fin 6) (b : Fin 16) : Ref.kept x (Ref.both s z) (ix2 n b) = BitVec.ofNat 32 (keep x s z n.val b).val :=
  (Ref.kept_at x _ n b).trans (Ref.arg_at _ b)

theorem table_at (b : Fin 16) (t : Fin 30) (d : Fin 2) (n : Fin 20000) : Ker.table (F := Ideal) q (ix4 b t d n) = q (ix4 b n t d) := by
  pointwise [Ker.table]

section
open Cert.KernelIdeal Cert.KernelIdeal.Gen
variable (m : (ℓ : Loc nD τ sig) → Buf (Elt Ideal) ℓ) (ρ : Dev nD → PrngReg) (c : Dev nD)

/-- Row `j` of a sample is the trajectory of its `j`-th pick. -/
theorem rows_at (b j : Fin 16) (t : Fin 30) (d : Fin 2) (n : Fin 20000)
    (h : Ker.chosen (F := Ideal) (m ((c : Thread nD τ).loc main_arg0)) (m ((c : Thread nD τ).loc main_arg1)) (m ((c : Thread nD τ).loc main_arg3))
      (m ((c : Thread nD τ).loc main_arg4)) (ix2 j b) = BitVec.ofNat 32 n.val) :
    Ker.rows m ρ c (ix4 b j t d) = (m ((c : Thread nD τ).loc main_arg2) : Vec Ideal S16x20000x30x2 .f32) (ix4 b n t d) := by
  refine (Ker.final1_2 (V3 m ρ) c b j t d).trans ?_
  refine (Ker.rows_at _ b (Ker.pt_coord b) _ _ j t d n ((congrFun (Ker.V3_chosen m ρ c) _).trans h)).trans ?_
  refine (Ker.iblk1_1_at (V3 m ρ) c b t d n).trans ?_
  exact (congrFun (Ker.V3_table m ρ c) _).trans (table_at _ b t d n)

/-! The four results. -/

theorem fin16 (b : Fin 16) (j : Fin 10) : (Fin.castLE (by omega) j : Fin 16).val = j.val := rfl

/-- The last call reads its blocks whole, but one column of the numbers. -/
theorem out_at (r : FVec Ideal S16x16x30x2 .f32) (g : FVec Ideal S16x30x2 .f32) (n : FVec Ideal S16x8 .f32) :
    out2_3 (F := Ideal) r g n (ix2 0 0)
      = Ideal.div (∑ b : Fin 16, (n (ix2 b 0) + Ideal.div (∑ j : Fin 16, ∑ t : Fin 30, ∑ d : Fin 2,
          if j.val < 10 then smoothAbs (r (ix4 b j t d) - g (ix3 b t d)) else 0) (Ideal.ofBits .f32 0x44160000#32)))
        (Ideal.ofBits .f32 0x41800000#32) := by
  unfold out2_3
  rw [View.canon_unit_zero (by funext a; fin_cases a <;> rfl) _ _]
  refine (Ker.mean_at _ _ _).trans ?_
  have h0 : View.ld (Val := Elt Ideal) (e' := .f32) r r2_0 = r := View.ld_unit_zero (by funext a; fin_cases a <;> rfl) _ _
  have h1 : View.ld (Val := Elt Ideal) (e' := .f32) g r2_1 = g := View.ld_unit_zero (by funext a; fin_cases a <;> rfl) _ _
  have h2 : ∀ b, View.ld (Val := Elt Ideal) (e' := .f32) n r2_2 (ix2 b 0) = n (ix2 b 0) := fun b => by pointwise
  rw [h0, h1]
  simp only [h2]

theorem result0 (hs : ∀ j, (⊥ : EReal) < (m (c.tc.loc main_arg1) : FVec Ideal S16x20000 .f32) j) :
    W6 m ρ c (Proc.devRef .tc main_v18) = Ref.res0 (m (c.tc.loc main_arg0)) (m (c.tc.loc main_arg1)) (m (c.tc.loc main_arg3)) (m (c.tc.loc main_arg4)) (m (c.tc.loc main_arg2)) := by
  refine (Ker.W6_lay m ρ c).1.trans ?_
  rw [Ker.W5_loss, Ref.res0_eq]
  funext i
  refine Eq.trans ?_ (Ref.mean16_at _ i).symm
  refine Eq.trans (b := out2_3 (F := Ideal) (Ker.rows m ρ c) (m (c.tc.loc main_arg4))
    (Ker.nums (m (c.tc.loc main_arg0)) (m (c.tc.loc main_arg1)) (m (c.tc.loc main_arg3)) (m (c.tc.loc main_arg4))) (ix2 0 0)) ?_ ?_
  · generalize out2_3 (F := Ideal) (Ker.rows m ρ c) (m (c.tc.loc main_arg4)) _ = v
    pointwise [Ker.lay0]
  · refine (out_at _ _ _).trans (congrArg (fun u => Ideal.div u _) (Finset.sum_congr rfl fun b _ => ?_))
    rw [loss_at _ _ _ _ hs]
    refine (add_comm _ _).trans (congrArg (· + _) ?_)
    refine Eq.trans (congrArg (fun u => Ideal.div u _) ?_) (Ref.meanT_at _ _ b).symm
    refine Eq.trans (Finset.sum_congr rfl fun j _ => ?_) ((Ker.sum_ten fun j => ∑ t : Fin 30, ∑ d : Fin 2,
      smoothAbs (Ker.rows m ρ c (ix4 b j t d) - (m (c.tc.loc main_arg4) : Vec Ideal S16x30x2 .f32) (ix3 b t d))).trans (Finset.sum_congr rfl fun j _ =>
        Finset.sum_congr rfl fun t _ => Finset.sum_congr rfl fun d _ => ?_))
    · split <;> simp
    · rw [rows_at m ρ c b _ t d _ (top_pick _ _ _ _ b _ j.isLt), Ref.trajs10_at b _ _ _ j t d (Ref.top_at _ hs b j)]
      rfl

theorem result1 : W6 m ρ c (Proc.devRef .tc main_v20) = Ref.res1 (m (c.tc.loc main_arg0)) (m (c.tc.loc main_arg1)) (m (c.tc.loc main_arg3)) (m (c.tc.loc main_arg4)) := by
  refine (Ker.W6_lay m ρ c).2.1.trans ?_
  rw [Ker.W5_nums]
  funext i
  obtain ⟨b, rfl⟩ : ∃ b, ix1 b = i := ⟨i 0, by funext a; fin_cases a; rfl⟩
  refine Eq.trans ?_ (dist_at _ _ _ _ b)
  generalize Ker.nums (F := Ideal) _ _ _ _ = v
  pointwise [Ker.lay1]

theorem result2 : W6 m ρ c (Proc.devRef .tc main_v21) = Ref.res2 (m (c.tc.loc main_arg0)) (m (c.tc.loc main_arg1)) (m (c.tc.loc main_arg3)) (m (c.tc.loc main_arg2)) := by
  refine (Ker.W6_lay m ρ c).2.2.1.trans ?_
  rw [Ker.W5_rows]
  funext i
  obtain ⟨b, k, t, d, rfl⟩ : ∃ b k t d, ix4 b k t d = i := ⟨i 0, i 1, i 2, i 3, Mean.ix4_of i _ rfl⟩
  refine Eq.trans (b := Ker.rows m ρ c (ix4 b ⟨10 + k.val, by omega⟩ t d)) ?_ ?_
  · generalize Ker.rows m ρ c = v
    pointwise [Ker.lay2]
  · rw [rows_at m ρ c b _ t d _ (keep_pick _ _ _ _ b _ k (Nat.add_comm _ _))]
    exact (Ref.trajs6_at b _ _ _ k t d (kept_word _ _ _ k b)).symm

theorem result3 : W6 m ρ c (Proc.devRef .tc main_v22) = Ref.res3 (m (c.tc.loc main_arg0)) (m (c.tc.loc main_arg1)) (m (c.tc.loc main_arg3)) := by
  refine (Ker.W6_lay m ρ c).2.2.2.trans ?_
  rw [Ker.W5_nums]
  funext i
  obtain ⟨b, k, rfl⟩ : ∃ b k, ix2 b k = i := ⟨i 0, i 1, ix2_eta i⟩
  have h := prob_at (m (c.tc.loc main_arg0)) (m (c.tc.loc main_arg1)) (m (c.tc.loc main_arg3)) (m (c.tc.loc main_arg4)) b k ⟨2 + k.val, by omega⟩ (Nat.add_comm _ _)
  unfold Ref.res3
  revert h
  generalize Ker.nums (F := Ideal) _ _ _ _ = v
  generalize Ref.probs (F := Ideal) _ _ = w
  intro h
  pointwise [Ker.lay3]
  exact h

end

end Cert.Proof.Same

end
-- ==== Proof.Scores.lean ====
module

public import proofs.«01_k».proof.Pre_finite_scores
public import proofs.«01_k».proof.Proof.Lits
public import Idealize.ShloMosaic.Lib.Pointwise

@[expose] public section

noncomputable section

/-! The condition on the scores: each is above minus infinity. -/

namespace Cert.Proof.Scores

open Cert.Pre_finite_scores Idealize.ShloMosaic

/-- A conjunction of bits is one only where each of them is. -/
theorem fold_and {ι : Type} (t : Finset ι) (f : ι → BitVec 1) (h : t.fold IntOp.andi 1#1 f = 1#1) : ∀ i ∈ t, f i = 1#1 := by
  induction t using Finset.cons_induction with
  | empty => intro i hi; simp at hi
  | cons a t ha ih =>
    rw [Finset.fold_cons] at h
    have hb : ∀ p q : BitVec 1, IntOp.andi p q = 1#1 → p = 1#1 ∧ q = 1#1 := by decide
    obtain ⟨h0, h1⟩ := hb _ _ h
    intro i hi
    rcases Finset.mem_cons.1 hi with rfl | hi
    · exact h0
    · exact ih h1 i hi

theorem above [Facts] (x : FVec Ideal S16x20000x2 .f32) (s : FVec Ideal S16x20000 .f32)
    (t : FVec Ideal S16x20000x30x2 .f32) (z : FVec Ideal S16x20000 .f32) (g : FVec Ideal S16x30x2 .f32)
    (h : fn x s t z g = fun _ => 1#1) : ∀ j, (⊥ : EReal) < s j := by
  intro j
  have h0 := congrFun h (fun i => i.elim0)
  pointwise [fn] at h0
  have h1 := fold_and _ _ h0 (j 0, j 1) (Finset.mem_univ _)
  rw [Lits.ninf] at h1
  have h2 : s (ix2 (j 0) (j 1)) = s j := congrArg s (ix2_eta j)
  rw [← h2]
  exact of_decide_eq_true (by
    revert h1
    cases decide (⊥ < s (ix2 (j 0) (j 1))) <;> simp)

end Cert.Proof.Scores

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_scores
public import proofs.«01_k».proof.Proof.Same
public import proofs.«01_k».proof.Proof.Scores
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-- The reference's results in its arguments, and its arguments as they were. -/
theorem ref_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => ∀ c : Dev Cert.ReferenceIdeal.nD,
        r.2.mem (c.tc.loc Cert.ReferenceIdeal.main_v360) = Ref.res0 (m (c.tc.loc Cert.ReferenceIdeal.main_arg0)) (m (c.tc.loc Cert.ReferenceIdeal.main_arg1)) (m (c.tc.loc Cert.ReferenceIdeal.main_arg3)) (m (c.tc.loc Cert.ReferenceIdeal.main_arg4)) (m (c.tc.loc Cert.ReferenceIdeal.main_arg2))
        ∧ r.2.mem (c.tc.loc Cert.ReferenceIdeal.main_v130) = Ref.res1 (m (c.tc.loc Cert.ReferenceIdeal.main_arg0)) (m (c.tc.loc Cert.ReferenceIdeal.main_arg1)) (m (c.tc.loc Cert.ReferenceIdeal.main_arg3)) (m (c.tc.loc Cert.ReferenceIdeal.main_arg4))
        ∧ r.2.mem (c.tc.loc Cert.ReferenceIdeal.main_v332) = Ref.res2 (m (c.tc.loc Cert.ReferenceIdeal.main_arg0)) (m (c.tc.loc Cert.ReferenceIdeal.main_arg1)) (m (c.tc.loc Cert.ReferenceIdeal.main_arg3)) (m (c.tc.loc Cert.ReferenceIdeal.main_arg2))
        ∧ r.2.mem (c.tc.loc Cert.ReferenceIdeal.main_v358) = Ref.res3 (m (c.tc.loc Cert.ReferenceIdeal.main_arg0)) (m (c.tc.loc Cert.ReferenceIdeal.main_arg1)) (m (c.tc.loc Cert.ReferenceIdeal.main_arg3))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4) := by
  refine (θ_run Cert.ReferenceIdeal.defs _ _).mono (fun r h c => ?_) (Ref.run (F := Ideal) m g)
  obtain ⟨h0, h1, h2, h3, a0, a1, a2, a3, a4⟩ := Ref.final_at (F := Ideal) c (launchContents m c)
  exact ⟨(h c _).trans h0, (h c _).trans h1, (h c _).trans h2, (h c _).trans h3,
    (h c _).trans a0, (h c _).trans a1, (h c _).trans a2, (h c _).trans a3, (h c _).trans a4⟩

theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4))
      ∧ r.2.sem = fun _ => 0 :=
  (θ_run Cert.ReferenceIdeal.defs _ _).mono (fun r h => ⟨fun c => (h c).2.2.2.2, sem_eq_zero_of_no_sems (by decide) r.2⟩) (ref_run m g)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hagree
  have hs : ∀ c : Dev Cert.KernelIdeal.nD, ∀ j, (⊥ : EReal) < (m (c.tc.loc Cert.KernelIdeal.main_arg1) : FVec Ideal Cert.KernelIdeal.S16x20000 .f32) j :=
    fun c => @Scores.above Cert.Pre_finite_scores.Gen.facts _ _ _ _ _ (hpre c)
  refine ⟨fun c => Ref.res0 (m (c.tc.loc Cert.KernelIdeal.main_arg0)) (m (c.tc.loc Cert.KernelIdeal.main_arg1)) (m (c.tc.loc Cert.KernelIdeal.main_arg3)) (m (c.tc.loc Cert.KernelIdeal.main_arg4)) (m (c.tc.loc Cert.KernelIdeal.main_arg2)),
    fun c => Ref.res1 (m (c.tc.loc Cert.KernelIdeal.main_arg0)) (m (c.tc.loc Cert.KernelIdeal.main_arg1)) (m (c.tc.loc Cert.KernelIdeal.main_arg3)) (m (c.tc.loc Cert.KernelIdeal.main_arg4)),
    fun c => Ref.res2 (m (c.tc.loc Cert.KernelIdeal.main_arg0)) (m (c.tc.loc Cert.KernelIdeal.main_arg1)) (m (c.tc.loc Cert.KernelIdeal.main_arg3)) (m (c.tc.loc Cert.KernelIdeal.main_arg2)),
    fun c => Ref.res3 (m (c.tc.loc Cert.KernelIdeal.main_arg0)) (m (c.tc.loc Cert.KernelIdeal.main_arg1)) (m (c.tc.loc Cert.KernelIdeal.main_arg3)), ?_, ?_⟩
  · refine (θ_run Cert.KernelIdeal.defs _ _).mono (fun r h c => ?_) (Ker.run_last (F := Ideal) m g)
    obtain ⟨h0, h1, h2, h3, ha⟩ := h c
    exact ⟨h0.trans (Same.result0 m g c (hs c)), h1.trans (Same.result1 m g c), h2.trans (Same.result2 m g c),
      h3.trans (Same.result3 m g c), ha⟩
  · refine (θ_run Cert.ReferenceIdeal.defs _ _).mono (fun r h c => ?_) (ref_run m' g')
    obtain ⟨h0, h1, h2, h3, ha⟩ := h c
    obtain ⟨e0, e1, e2, e3, e4⟩ := hagree c
    rw [e0, e1, e2, e3, e4] at h0
    rw [e0, e1, e3, e4] at h1
    rw [e0, e1, e2, e3] at h2
    rw [e0, e1, e3] at h3
    exact ⟨h0, h1, h2, h3, ha⟩

theorem claim : Cert.Claim :=
  ⟨Cert.Kernel.Gen.facts, Cert.KernelIdeal.Gen.facts, Cert.ReferenceIdeal.Gen.facts, Cert.Pre_finite_scores.Gen.facts,
    fun m g _ => Cert.Kernel.Gen.frame m g, fun m g _ => Cert.KernelIdeal.Gen.frame m g, fun m g _ => Cert.KernelIdeal.Gen.frame m g,
    fun m g _ => frame_ref m g, fun m g _ => frame_ref m g, trivial, algebraic⟩

end Cert.Proof

end
